-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x3x4096 : Shape := ⟨3, ![8, 3, 4096]⟩
abbrev S8x3x1024 : Shape := ⟨3, ![8, 3, 1024]⟩
abbrev S8x64x4096 : Shape := ⟨3, ![8, 64, 4096]⟩
abbrev S8x64x1024 : Shape := ⟨3, ![8, 64, 1024]⟩
abbrev S128x128 : Shape := ⟨2, ![128, 128]⟩
abbrev S128 : Shape := ⟨1, ![128]⟩
abbrev S8x4096x3 : Shape := ⟨3, ![8, 4096, 3]⟩
abbrev S8x1024x3 : Shape := ⟨3, ![8, 1024, 3]⟩
abbrev S8x4096x1x3 : Shape := ⟨4, ![8, 4096, 1, 3]⟩
abbrev S8x1x1024x3 : Shape := ⟨4, ![8, 1, 1024, 3]⟩
abbrev S8x4096x1024x3 : Shape := ⟨4, ![8, 4096, 1024, 3]⟩
abbrev S_ : Shape := ⟨0, ![]⟩
abbrev S8x4096x1024 : Shape := ⟨3, ![8, 4096, 1024]⟩
abbrev S8x4096x4 : Shape := ⟨3, ![8, 4096, 4]⟩

class Facts : Prop where
  transposes_S8x3x4096_S8x4096x3_0_2_1 : S8x3x4096.Transposes [0, 2, 1] S8x4096x3
  transposes_S8x3x1024_S8x1024x3_0_2_1 : S8x3x1024.Transposes [0, 2, 1] S8x1024x3
  bcast_S8x4096x3_S8x4096x1x3_0_1_3 : S8x4096x3.BroadcastsInDim S8x4096x1x3 (![0, 1, 3] : Fin 3 → Fin S8x4096x1x3.rank)
  bcast_S8x1024x3_S8x1x1024x3_0_2_3 : S8x1024x3.BroadcastsInDim S8x1x1024x3 (![0, 2, 3] : Fin 3 → Fin S8x1x1024x3.rank)
  bcast_S8x4096x1x3_S8x4096x1024x3_0_1_2_3 : S8x4096x1x3.BroadcastsInDim S8x4096x1024x3 (![0, 1, 2, 3] : Fin 4 → Fin S8x4096x1024x3.rank)
  bcast_S8x1x1024x3_S8x4096x1024x3_0_1_2_3 : S8x1x1024x3.BroadcastsInDim S8x4096x1024x3 (![0, 1, 2, 3] : Fin 4 → Fin S8x4096x1024x3.rank)
  reducesTo_S8x4096x1024x3_S8x4096x1024_d3 : S8x4096x1024x3.ReducesTo [3] S8x4096x1024
  h_S_ : 0 < S_.numel
  sliceFits_S8x4096x1024_S8x4096x4 : S8x4096x1024.Slices (fun _ => 0) S8x4096x4
  bcast_S_S8x3x1024 : S_.BroadcastsInDim S8x3x1024 (![] : Fin 0 → Fin S8x3x1024.rank)
  reducesTo_S8x3x1024_S_d0_1_2 : S8x3x1024.ReducesTo [0, 1, 2] S_
  bcast_S_S8x3x4096 : S_.BroadcastsInDim S8x3x4096 (![] : Fin 0 → Fin S8x3x4096.rank)
  reducesTo_S8x3x4096_S_d0_1_2 : S8x3x4096.ReducesTo [0, 1, 2] S_
  slices_S8x4096x4_S8x4096x3_0_0_0 : S8x4096x4.Slices ![0, 0, 0] S8x4096x3
  slices_S8x4096x4_S8x4096x3_0_0_1 : S8x4096x4.Slices ![0, 0, 1] S8x4096x3
  reducesTo_S8x4096x3_S_d0_1_2 : S8x4096x3.ReducesTo [0, 1, 2] S_

variable [Facts]

def fn_part1 {F : FTy → Type} [FloatOps F] (main_arg3 : FVec F S8x3x1024 .f32) (main_v10 : FVec F S8x4096x4 .f32) (main_v14 : IVec S_ 1) (main_v17 : IVec S8x3x4096 1) : IVec S_ 1 :=
  let main_c_2 : IVec S_ 1 := constantI S_ 1 1#1
  let main_v18 : IVec S_ 1 := (fun x v => Host.reduce IntOp.andi x v reducesTo_S8x3x4096_S_d0_1_2 h_S_) main_v17 main_c_2
  let main_v19 : IVec S_ 1 := andi main_v14 main_v18
  let main_v20 : FVec F S8x3x1024 .f32 := Host.absf main_arg3
  let main_cst_3 : FVec F S_ .f32 := constant S_ .f32 0x7F800000#32
  let main_v21 : FVec F S8x3x1024 .f32 := broadcastInDim S8x3x1024 ![] bcast_S_S8x3x1024 main_cst_3
  let main_v22 : IVec S8x3x1024 1 := cmpf .olt main_v20 main_v21
  let main_c_4 : IVec S_ 1 := constantI S_ 1 1#1
  let main_v23 : IVec S_ 1 := (fun x v => Host.reduce IntOp.andi x v reducesTo_S8x3x1024_S_d0_1_2 h_S_) main_v22 main_c_4
  let main_v24 : IVec S_ 1 := andi main_v19 main_v23
  let main_v25 : FVec F S8x4096x3 .f32 := (extractStridedSlice S8x4096x3 ![0, 0, 0] · slices_S8x4096x4_S8x4096x3_0_0_0) main_v10
  let main_v26 : FVec F S8x4096x3 .f32 := (extractStridedSlice S8x4096x3 ![0, 0, 1] · slices_S8x4096x4_S8x4096x3_0_0_1) main_v10
  let main_v27 : IVec S8x4096x3 1 := cmpf .olt main_v25 main_v26
  let main_c_5 : IVec S_ 1 := constantI S_ 1 1#1
  let main_v28 : IVec S_ 1 := (fun x v => Host.reduce IntOp.andi x v reducesTo_S8x4096x3_S_d0_1_2 h_S_) main_v27 main_c_5
  let main_v29 : IVec S_ 1 := andi main_v24 main_v28
  main_v29

def fn {F : FTy → Type} [FloatOps F] (main_arg0 : FVec F S8x3x4096 .f32) (main_arg1 : FVec F S8x3x1024 .f32) (main_arg2 : FVec F S8x3x4096 .f32) (main_arg3 : FVec F S8x3x1024 .f32) (main_arg4 : FVec F S8x64x4096 .f32) (main_arg5 : FVec F S8x64x1024 .f32) (main_arg6 : FVec F S128x128 .f32) (main_arg7 : FVec F S128 .f32) (main_arg8 : FVec F S128x128 .f32) (main_arg9 : FVec F S128 .f32) : IVec S_ 1 :=
  let main_v0 : FVec F S8x4096x3 .f32 := (transpose S8x4096x3 [0, 2, 1] · transposes_S8x3x4096_S8x4096x3_0_2_1) main_arg0
  let main_v1 : FVec F S8x1024x3 .f32 := (transpose S8x1024x3 [0, 2, 1] · transposes_S8x3x1024_S8x1024x3_0_2_1) main_arg1
  let main_v2 : FVec F S8x4096x1x3 .f32 := broadcastInDim S8x4096x1x3 ![0, 1, 3] bcast_S8x4096x3_S8x4096x1x3_0_1_3 main_v0
  let main_v3 : FVec F S8x1x1024x3 .f32 := broadcastInDim S8x1x1024x3 ![0, 2, 3] bcast_S8x1024x3_S8x1x1024x3_0_2_3 main_v1
  let main_v4 : FVec F S8x4096x1024x3 .f32 := broadcastInDim S8x4096x1024x3 ![0, 1, 2, 3] bcast_S8x4096x1x3_S8x4096x1024x3_0_1_2_3 main_v2
  let main_v5 : FVec F S8x4096x1024x3 .f32 := broadcastInDim S8x4096x1024x3 ![0, 1, 2, 3] bcast_S8x1x1024x3_S8x4096x1024x3_0_1_2_3 main_v3
  let main_v6 : FVec F S8x4096x1024x3 .f32 := subf main_v4 main_v5
  let main_v7 : FVec F S8x4096x1024x3 .f32 := mulf main_v6 main_v6
  let main_cst : FVec F S_ .f32 := constant S_ .f32 0x00000000#32
  let main_v8 : FVec F S8x4096x1024 .f32 := (fun x v => Host.reduceAdd x v reducesTo_S8x4096x1024x3_S8x4096x1024_d3 h_S_) main_v7 main_cst
  let main_v9 : FVec F S8x4096x1024 .f32 := Host.negf main_v8
  let main_values : FVec F S8x4096x4 .f32 := (fun x => (Host.topK S8x4096x4 2 (FloatOps.cmpfTotal .gt) x sliceFits_S8x4096x1024_S8x4096x4).1) main_v9
  let main_indices : IVec S8x4096x4 32 := (fun x => (Host.topK S8x4096x4 2 (FloatOps.cmpfTotal .gt) x sliceFits_S8x4096x1024_S8x4096x4).2) main_v9
  let main_v10 : FVec F S8x4096x4 .f32 := Host.negf main_values
  let main_v11 : FVec F S8x3x1024 .f32 := Host.absf main_arg1
  let main_cst_0 : FVec F S_ .f32 := constant S_ .f32 0x7F800000#32
  let main_v12 : FVec F S8x3x1024 .f32 := broadcastInDim S8x3x1024 ![] bcast_S_S8x3x1024 main_cst_0
  let main_v13 : IVec S8x3x1024 1 := cmpf .olt main_v11 main_v12
  let main_c : IVec S_ 1 := constantI S_ 1 1#1
  let main_v14 : IVec S_ 1 := (fun x v => Host.reduce IntOp.andi x v reducesTo_S8x3x1024_S_d0_1_2 h_S_) main_v13 main_c
  let main_v15 : FVec F S8x3x4096 .f32 := Host.absf main_arg2
  let main_cst_1 : FVec F S_ .f32 := constant S_ .f32 0x7F800000#32
  let main_v16 : FVec F S8x3x4096 .f32 := broadcastInDim S8x3x4096 ![] bcast_S_S8x3x4096 main_cst_1
  let main_v17 : IVec S8x3x4096 1 := cmpf .olt main_v15 main_v16
  fn_part1 (F := F) main_arg3 main_v10 main_v14 main_v17
-- ==== Kernel.lean ====
abbrev S8x3x4096 : Shape := ⟨3, ![8, 3, 4096]⟩
abbrev S8x3x1024 : Shape := ⟨3, ![8, 3, 1024]⟩
abbrev S8x64x4096 : Shape := ⟨3, ![8, 64, 4096]⟩
abbrev S8x64x1024 : Shape := ⟨3, ![8, 64, 1024]⟩
abbrev S128x128 : Shape := ⟨2, ![128, 128]⟩
abbrev S128 : Shape := ⟨1, ![128]⟩
abbrev S8x1024x3 : Shape := ⟨3, ![8, 1024, 3]⟩
abbrev S_ : Shape := ⟨0, ![]⟩
abbrev S8x1024 : Shape := ⟨2, ![8, 1024]⟩
abbrev S8x1024x1 : Shape := ⟨3, ![8, 1024, 1]⟩
abbrev S8x1024x4 : Shape := ⟨3, ![8, 1024, 4]⟩
abbrev S8x67x1024 : Shape := ⟨3, ![8, 67, 1024]⟩
abbrev S128x1 : Shape := ⟨2, ![128, 1]⟩
abbrev S8x128x4096 : Shape := ⟨3, ![8, 128, 4096]⟩
abbrev S1x3x4096 : Shape := ⟨3, ![1, 3, 4096]⟩
abbrev S1x1024x4 : Shape := ⟨3, ![1, 1024, 4]⟩
abbrev S1x67x1024 : Shape := ⟨3, ![1, 67, 1024]⟩
abbrev S1x64x4096 : Shape := ⟨3, ![1, 64, 4096]⟩
abbrev S1x128x4096 : Shape := ⟨3, ![1, 128, 4096]⟩
abbrev S3x4096 : Shape := ⟨2, ![3, 4096]⟩
abbrev S1024x4 : Shape := ⟨2, ![1024, 4]⟩
abbrev S67x1024 : Shape := ⟨2, ![67, 1024]⟩
abbrev S1x4096 : Shape := ⟨2, ![1, 4096]⟩
abbrev S1024x1 : Shape := ⟨2, ![1024, 1]⟩
abbrev S1024x4096 : Shape := ⟨2, ![1024, 4096]⟩
abbrev S4096 : Shape := ⟨1, ![4096]⟩
abbrev S67x4096 : Shape := ⟨2, ![67, 4096]⟩
abbrev S64x4096 : Shape := ⟨2, ![64, 4096]⟩
abbrev S128x4096 : Shape := ⟨2, ![128, 4096]⟩

abbrev nBuf : Space → Nat
  | .hbm => 23
  | .vmem => 16
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x3x4096, .f32⟩
  | .hbm, ⟨3, _⟩ => ⟨S8x3x1024, .f32⟩
  | .hbm, ⟨4, _⟩ => ⟨S8x64x4096, .f32⟩
  | .hbm, ⟨5, _⟩ => ⟨S8x64x1024, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S8x1024x3, .f32⟩
  | .hbm, ⟨11, _⟩ => ⟨S8x1024x3, .f32⟩
  | .hbm, ⟨12, _⟩ => ⟨S_, .f32⟩
  | .hbm, ⟨13, _⟩ => ⟨S8x1024, .f32⟩
  | .hbm, ⟨14, _⟩ => ⟨S8x1024x1, .f32⟩
  | .hbm, ⟨15, _⟩ => ⟨S_, .f32⟩
  | .hbm, ⟨16, _⟩ => ⟨S8x1024x3, .f32⟩
  | .hbm, ⟨17, _⟩ => ⟨S8x1024x3, .f32⟩
  | .hbm, ⟨18, _⟩ => ⟨S8x1024x4, .f32⟩
  | .hbm, ⟨19, _⟩ => ⟨S8x67x1024, .f32⟩
  | .hbm, ⟨20, _⟩ => ⟨S128x1, .f32⟩
  | .hbm, ⟨21, _⟩ => ⟨S128x1, .f32⟩
  | .hbm, ⟨22, _⟩ => ⟨S8x128x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x1024x4, .f32⟩
  | .local _ .vmem, ⟨3, _⟩ => ⟨S1x1024x4, .f32⟩
  | .local _ .vmem, ⟨4, _⟩ => ⟨S1x3x4096, .f32⟩
  | .local _ .vmem, ⟨5, _⟩ => ⟨S1x3x4096, .f32⟩
  | .local _ .vmem, ⟨6, _⟩ => ⟨S1x67x1024, .f32⟩
  | .local _ .vmem, ⟨7, _⟩ => ⟨S1x67x1024, .f32⟩
  | .local _ .vmem, ⟨8, _⟩ => ⟨S1x64x4096, .f32⟩
  | .local _ .vmem, ⟨9, _⟩ => ⟨S1x64x4096, .f32⟩
  | .local _ .vmem, ⟨10, _⟩ => ⟨S128x128, .f32⟩
  | .local _ .vmem, ⟨11, _⟩ => ⟨S128x1, .f32⟩
  | .local _ .vmem, ⟨12, _⟩ => ⟨S128x128, .f32⟩
  | .local _ .vmem, ⟨13, _⟩ => ⟨S128x1, .f32⟩
  | .local _ .vmem, ⟨14, _⟩ => ⟨S1x128x4096, .f32⟩
  | .local _ .vmem, ⟨15, _⟩ => ⟨S1x128x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x67x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x3x4096 : Shape := ⟨3, ![8, 3, 4096]⟩
abbrev S8x3x1024 : Shape := ⟨3, ![8, 3, 1024]⟩
abbrev S8x64x4096 : Shape := ⟨3, ![8, 64, 4096]⟩
abbrev S8x64x1024 : Shape := ⟨3, ![8, 64, 1024]⟩
abbrev S128x128 : Shape := ⟨2, ![128, 128]⟩
abbrev S128 : Shape := ⟨1, ![128]⟩
abbrev S8x4096x3 : Shape := ⟨3, ![8, 4096, 3]⟩
abbrev S8x1024x3 : Shape := ⟨3, ![8, 1024, 3]⟩
abbrev S8x4096x1x3 : Shape := ⟨4, ![8, 4096, 1, 3]⟩
abbrev S8x1x1024x3 : Shape := ⟨4, ![8, 1, 1024, 3]⟩
abbrev S8x4096x1024x3 : Shape := ⟨4, ![8, 4096, 1024, 3]⟩
abbrev S_ : Shape := ⟨0, ![]⟩
abbrev S8x4096x1024 : Shape := ⟨3, ![8, 4096, 1024]⟩
abbrev S8x4096x3x1 : Shape := ⟨4, ![8, 4096, 3, 1]⟩
abbrev S8x4096x3x3 : Shape := ⟨4, ![8, 4096, 3, 3]⟩
abbrev S8x4096 : Shape := ⟨2, ![8, 4096]⟩
abbrev S8x4096x1 : Shape := ⟨3, ![8, 4096, 1]⟩
abbrev S8x1024x64 : Shape := ⟨3, ![8, 1024, 64]⟩
abbrev S8x4096x3x64 : Shape := ⟨4, ![8, 4096, 3, 64]⟩
abbrev S8x4096x64 : Shape := ⟨3, ![8, 4096, 64]⟩
abbrev S8x128x4096 : Shape := ⟨3, ![8, 128, 4096]⟩
abbrev S8x4096x128 : Shape := ⟨3, ![8, 4096, 128]⟩
abbrev S1x128x1 : Shape := ⟨3, ![1, 128, 1]⟩

abbrev nBuf : Space → Nat
  | .hbm => 102
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x3x4096, .f32⟩
  | .hbm, ⟨3, _⟩ => ⟨S8x3x1024, .f32⟩
  | .hbm, ⟨4, _⟩ => ⟨S8x64x4096, .f32⟩
  | .hbm, ⟨5, _⟩ => ⟨S8x64x1024, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S8x4096x3, .f32⟩
  | .hbm, ⟨11, _⟩ => ⟨S8x1024x3, .f32⟩
  | .hbm, ⟨12, _⟩ => ⟨S8x4096x1x3, .f32⟩
  | .hbm, ⟨13, _⟩ => ⟨S8x1x1024x3, .f32⟩
  | .hbm, ⟨14, _⟩ => ⟨S8x4096x1024x3, .f32⟩
  | .hbm, ⟨15, _⟩ => ⟨S8x4096x1024x3, .f32⟩
  | .hbm, ⟨16, _⟩ => ⟨S8x4096x1024x3, .f32⟩
  | .hbm, ⟨17, _⟩ => ⟨S8x4096x1024x3, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x3, .f32⟩
  | .hbm, ⟨22, _⟩ => ⟨S8x4096x3, .i32⟩
  | .hbm, ⟨23, _⟩ => ⟨S8x4096x3, .f32⟩
  | .hbm, ⟨24, _⟩ => ⟨S_, .f32⟩
  | .hbm, ⟨25, _⟩ => ⟨S8x4096x3, .f32⟩
  | .hbm, ⟨26, _⟩ => ⟨S8x4096x3, .f32⟩
  | .hbm, ⟨27, _⟩ => ⟨S8x4096x3, .f32⟩
  | .hbm, ⟨28, _⟩ => ⟨S8x1024x3, .f32⟩
  | .hbm, ⟨29, _⟩ => ⟨S_, .i32⟩
  | .hbm, ⟨30, _⟩ => ⟨S8x4096x3, .i32⟩
  | .hbm, ⟨31, _⟩ => ⟨S8x4096x3, .i1⟩
  | .hbm, ⟨32, _⟩ => ⟨S_, .i32⟩
  | .hbm, ⟨33, _⟩ => ⟨S8x4096x3, .i32⟩
  | .hbm, ⟨34, _⟩ => ⟨S8x4096x3, .i32⟩
  | .hbm, ⟨35, _⟩ => ⟨S8x4096x3, .i32⟩
  | .hbm, ⟨36, _⟩ => ⟨S8x4096x3x1, .i32⟩
  | .hbm, ⟨37, _⟩ => ⟨S8x4096x3x3, .f32⟩
  | .hbm, ⟨38, _⟩ => ⟨S8x4096x3, .f32⟩
  | .hbm, ⟨39, _⟩ => ⟨S8x4096x1x3, .f32⟩
  | .hbm, ⟨40, _⟩ => ⟨S8x4096x3x3, .f32⟩
  | .hbm, ⟨41, _⟩ => ⟨S8x4096x3x3, .f32⟩
  | .hbm, ⟨42, _⟩ => ⟨S8x4096x3x3, .f32⟩
  | .hbm, ⟨43, _⟩ => ⟨S_, .f32⟩
  | .hbm, ⟨44, _⟩ => ⟨S8x4096x3, .f32⟩
  | .hbm, ⟨45, _⟩ => ⟨S8x4096x3, .f32⟩
  | .hbm, ⟨46, _⟩ => ⟨S_, .f32⟩
  | .hbm, ⟨47, _⟩ => ⟨S8x4096x3, .f32⟩
  | .hbm, ⟨48, _⟩ => ⟨S8x4096x3, .f32⟩
  | .hbm, ⟨49, _⟩ => ⟨S_, .f32⟩
  | .hbm, ⟨50, _⟩ => ⟨S8x4096x3, .f32⟩
  | .hbm, ⟨51, _⟩ => ⟨S8x4096x3, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x3, .f32⟩
  | .hbm, ⟨56, _⟩ => ⟨S8x4096x3, .f32⟩
  | .hbm, ⟨57, _⟩ => ⟨S_, .f32⟩
  | .hbm, ⟨58, _⟩ => ⟨S8x4096x3, .f32⟩
  | .hbm, ⟨59, _⟩ => ⟨S8x4096x3, .f32⟩
  | .hbm, ⟨60, _⟩ => ⟨S_, .f32⟩
  | .hbm, ⟨61, _⟩ => ⟨S8x4096x3, .f32⟩
  | .hbm, ⟨62, _⟩ => ⟨S8x4096x3, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S8x4096x3, .f32⟩
  | .hbm, ⟨67, _⟩ => ⟨S8x4096x3, .f32⟩
  | .hbm, ⟨68, _⟩ => ⟨S8x4096x3, .f32⟩
  | .hbm, ⟨69, _⟩ => ⟨S8x1024x64, .f32⟩
  | .hbm, ⟨70, _⟩ => ⟨S_, .i32⟩
  | .hbm, ⟨71, _⟩ => ⟨S8x4096x3, .i32⟩
  | .hbm, ⟨72, _⟩ => ⟨S8x4096x3, .i1⟩
  | .hbm, ⟨73, _⟩ => ⟨S_, .i32⟩
  | .hbm, ⟨74, _⟩ => ⟨S8x4096x3, .i32⟩
  | .hbm, ⟨75, _⟩ => ⟨S8x4096x3, .i32⟩
  | .hbm, ⟨76, _⟩ => ⟨S8x4096x3, .i32⟩
  | .hbm, ⟨77, _⟩ => ⟨S8x4096x3x1, .i32⟩
  | .hbm, ⟨78, _⟩ => ⟨S8x4096x3x64, .f32⟩
  | .hbm, ⟨79, _⟩ => ⟨S8x4096x3x1, .f32⟩
  | .hbm, ⟨80, _⟩ => ⟨S8x4096x3x64, .f32⟩
  | .hbm, ⟨81, _⟩ => ⟨S8x4096x3x64, .f32⟩
  | .hbm, ⟨82, _⟩ => ⟨S_, .f32⟩
  | .hbm, ⟨83, _⟩ => ⟨S8x4096x64, .f32⟩
  | .hbm, ⟨84, _⟩ => ⟨S8x64x4096, .f32⟩
  | .hbm, ⟨85, _⟩ => ⟨S8x128x4096, .f32⟩
  | .hbm, ⟨86, _⟩ => ⟨S8x4096x128, .f32⟩
  | .hbm, ⟨87, _⟩ => ⟨S8x128x4096, .f32⟩
  | .hbm, ⟨88, _⟩ => ⟨S1x128x1, .f32⟩
  | .hbm, ⟨89, _⟩ => ⟨S8x128x4096, .f32⟩
  | .hbm, ⟨90, _⟩ => ⟨S8x128x4096, .f32⟩
  | .hbm, ⟨91, _⟩ => ⟨S_, .f32⟩
  | .hbm, ⟨92, _⟩ => ⟨S8x128x4096, .f32⟩
  | .hbm, ⟨93, _⟩ => ⟨S8x128x4096, .f32⟩
  | .hbm, ⟨94, _⟩ => ⟨S8x4096x128, .f32⟩
  | .hbm, ⟨95, _⟩ => ⟨S8x128x4096, .f32⟩
  | .hbm, ⟨96, _⟩ => ⟨S1x128x1, .f32⟩
  | .hbm, ⟨97, _⟩ => ⟨S8x128x4096, .f32⟩
  | .hbm, ⟨98, _⟩ => ⟨S8x128x4096, .f32⟩
  | .hbm, ⟨99, _⟩ => ⟨S_, .f32⟩
  | .hbm, ⟨100, _⟩ => ⟨S8x128x4096, .f32⟩
  | .hbm, ⟨101, _⟩ => ⟨S8x128x4096, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_values : Ref sig .tc := ⟨.hbm, 21, rfl⟩
abbrev main_indices : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call0_cst : Ref sig .tc := ⟨.hbm, 91, rfl⟩
abbrev main_call0_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== Proof.Nearest.lean ====
/- The three nearest of 1024 distances, found by three rounds of "take the minimum, then hide it": the mathematics of the
   search, with no vectors in it. -/
module

public import Idealize.ShloMosaic.Lib.Pointwise
public import Idealize.ShloMosaic.Lib.IdealHost

@[expose] public section

noncomputable section

namespace Cert.Three

open Idealize.ShloMosaic

/-- `i 0`, `i 1`, `i 2` are the positions of the three smallest of the distances `D`, in order, with no ties among the
    first four values: each is strictly below the next, and the third is strictly below every other one. All distances
    are finite. -/
structure Nearest (D : Fin 1024 → EReal) (i : Fin 3 → Fin 1024) : Prop where
  finite : ∀ m, D m ≠ ⊤
  lt01 : D (i 0) < D (i 1)
  lt12 : D (i 1) < D (i 2)
  rest : ∀ m, m ≠ i 0 → m ≠ i 1 → m ≠ i 2 → D (i 2) < D m

/-- The distances after the first round: the nearest is hidden. -/
def hide1 (D : Fin 1024 → EReal) (i : Fin 3 → Fin 1024) (m : Fin 1024) : EReal := if m = i 0 then ⊤ else D m

/-- The distances after the second round: the two nearest are hidden. -/
def hide2 (D : Fin 1024 → EReal) (i : Fin 3 → Fin 1024) (m : Fin 1024) : EReal := if m = i 1 then ⊤ else hide1 D i m

/-- A running minimum from ⊤ is the value at `k` when no value is below it. -/
theorem fold_min_eq {n : ℕ} (f : Fin n → EReal) (k : Fin n) (h : ∀ m, f k ≤ f m) :
    Finset.univ.fold min ⊤ f = f k :=
  le_antisymm ((Finset.fold_min_le _).mpr (Or.inr ⟨k, Finset.mem_univ _, le_rfl⟩))
    ((Finset.le_fold_min _).mpr ⟨le_top, fun m _ => h m⟩)

variable {D : Fin 1024 → EReal} {i : Fin 3 → Fin 1024}

namespace Nearest

theorem lt0 (h : Nearest D i) {m : Fin 1024} (hm : m ≠ i 0) : D (i 0) < D m := by
  by_cases h1 : m = i 1
  · exact h1 ▸ h.lt01
  by_cases h2 : m = i 2
  · exact h2 ▸ h.lt01.trans h.lt12
  exact (h.lt01.trans h.lt12).trans (h.rest m hm h1 h2)

theorem lt1 (h : Nearest D i) {m : Fin 1024} (hm : m ≠ i 0) (h1 : m ≠ i 1) : D (i 1) < D m := by
  by_cases h2 : m = i 2
  · exact h2 ▸ h.lt12
  exact h.lt12.trans (h.rest m hm h1 h2)

theorem ne10 (h : Nearest D i) : i 1 ≠ i 0 := fun e => absurd h.lt01 (by rw [e]; exact lt_irrefl _)
theorem ne21 (h : Nearest D i) : i 2 ≠ i 1 := fun e => absurd h.lt12 (by rw [e]; exact lt_irrefl _)
theorem ne20 (h : Nearest D i) : i 2 ≠ i 0 := fun e => absurd (h.lt01.trans h.lt12) (by rw [e]; exact lt_irrefl _)

/-- Round one: the minimum is the nearest distance, -/
theorem min0 (h : Nearest D i) : Finset.univ.fold min ⊤ D = D (i 0) :=
  fold_min_eq D (i 0) fun m => if hm : m = i 0 then hm ▸ le_rfl else (h.lt0 hm).le

/-- and only the nearest point attains it. -/
theorem eq0 (h : Nearest D i) (m : Fin 1024) : D m = D (i 0) ↔ m = i 0 :=
  ⟨fun e => by_contra fun hm => (h.lt0 hm).ne' e, fun e => e ▸ rfl⟩

theorem hide1_at (h : Nearest D i) : hide1 D i (i 1) = D (i 1) := if_neg h.ne10

theorem hide1_lt (h : Nearest D i) {m : Fin 1024} (hm : m ≠ i 1) : D (i 1) < hide1 D i m := by
  unfold hide1
  split
  · exact lt_top_iff_ne_top.mpr (h.finite _)
  · exact h.lt1 ‹_› hm

/-- Round two: the minimum is the second distance, -/
theorem min1 (h : Nearest D i) : Finset.univ.fold min ⊤ (hide1 D i) = D (i 1) := by
  rw [← h.hide1_at]
  refine fold_min_eq _ _ fun m => ?_
  by_cases hm : m = i 1
  · rw [hm]
  · rw [h.hide1_at]; exact (h.hide1_lt hm).le

/-- and only the second point attains it. -/
theorem eq1 (h : Nearest D i) (m : Fin 1024) : hide1 D i m = D (i 1) ↔ m = i 1 :=
  ⟨fun e => by_contra fun hm => (h.hide1_lt hm).ne' e, fun e => e ▸ h.hide1_at⟩

theorem hide2_at (h : Nearest D i) : hide2 D i (i 2) = D (i 2) := by
  rw [hide2, if_neg h.ne21, hide1, if_neg h.ne20]

theorem hide2_lt (h : Nearest D i) {m : Fin 1024} (hm : m ≠ i 2) : D (i 2) < hide2 D i m := by
  unfold hide2 hide1
  split
  · exact lt_top_iff_ne_top.mpr (h.finite _)
  split
  · exact lt_top_iff_ne_top.mpr (h.finite _)
  · exact h.rest m ‹_› ‹_› hm

/-- Round three: the minimum is the third distance, -/
theorem min2 (h : Nearest D i) : Finset.univ.fold min ⊤ (hide2 D i) = D (i 2) := by
  rw [← h.hide2_at]
  refine fold_min_eq _ _ fun m => ?_
  by_cases hm : m = i 2
  · rw [hm]
  · rw [h.hide2_at]; exact (h.hide2_lt hm).le

/-- and only the third point attains it. -/
theorem eq2 (h : Nearest D i) (m : Fin 1024) : hide2 D i m = D (i 2) ↔ m = i 2 :=
  ⟨fun e => by_contra fun hm => (h.hide2_lt hm).ne' e, fun e => e ▸ h.hide2_at⟩

end Nearest

/-- A sum against a 0/1 vector that is 1 at one place reads the other factor there. -/
theorem sum_onehot (v : Fin 1024 → EReal) (k : Fin 1024) :
    ∑ m, v m * (if m = k then (1 : EReal) else 0) = v k := by
  rw [Finset.sum_eq_single k]
  · simp
  · intro m _ hm; rw [if_neg hm, mul_zero]
  · intro h; exact absurd (Finset.mem_univ _) h

/-- The 0/1 word of a comparison, widened and read as a number, is 1 or 0. -/
theorem sitofp_mask (p : Prop) [Decidable p] :
    FloatOps.sitofp (F := Ideal) .f32 (BitVec.setWidth 32 (BitVec.ofBool (decide p))) = (if p then 1 else 0 : EReal) := by
  by_cases h : p
  · simp [h, FloatOps.sitofp]
  · simp [h, FloatOps.sitofp]

/-- A selection by a comparison's word is the case distinction. -/
theorem select_mask {α : Type} (p : Prop) [Decidable p] (x y : α) :
    Scalar.select (BitVec.ofBool (decide p)) x y = if p then x else y := by
  by_cases h : p <;> simp [h, Scalar.select]

/-- The word the search hides a distance with is +∞. -/
theorem ofBits_inf : Ideal.ofBits .f32 0x7F800000#32 = ⊤ := by
  simp [Ideal.ofBits, Ideal.ieee]

/-- The word of minus two is minus two. -/
theorem ofBits_neg_two : Ideal.ofBits .f32 0xC0000000#32 = ((-2 : ℝ) : EReal) := by
  simp [Ideal.ofBits, Ideal.ieee]
  rw [← EReal.coe_mul]
  norm_num

/-- The small constant both programs keep a distance above, as the extended real its word names. -/
def eps : EReal := Ideal.ofBits .f32 0x2EDBE6FF#32

/-- It is a positive real. -/
theorem eps_pos : ∃ e : ℝ, 0 < e ∧ eps = (e : EReal) := by
  unfold eps Ideal.ofBits Ideal.ieee
  simp only
  rw [if_neg (by decide), if_neg (by decide)]
  refine ⟨_, ?_, rfl⟩
  rw [if_neg (by decide)]
  positivity

end Cert.Three

end
-- ==== Proof.Search.lean ====
/- The kernel's search for the three nearest points, one column at a time: each round's minimum, its mask, and the one-hot
   matrix product that reads the chosen point's values. -/
module

public import proofs.«01_k».proof.Proof.Gen.KernelIdeal.Frame
public import proofs.«01_k».proof.Proof.Nearest

@[expose] public section

noncomputable section

namespace Cert.Three

open Idealize.ShloMosaic Cert.KernelIdeal Cert.KernelIdeal.Gen

variable {D : Fin 1024 → EReal} {i : Fin 3 → Fin 1024} {n : Fin 4096}

/-! ## Round one -/

section One

variable {v0 : Vec Ideal S1x3x4096 .f32} {v4 : Vec Ideal S1x1024x4 .f32}

/-- Round one's minimum over the column is the nearest distance. -/
theorem min_one (h : Nearest D i) (hD : ∀ m, k0_pay4 v0 v4 (ix2 m n) = D m) :
    k0_pay5 v0 v4 (ix2 0 n) = D (i 0) := by
  pointwise [k0_pay5]
  simp only [hD, ofBits_inf]
  exact h.min0

/-- Round one's mask marks the nearest point alone. -/
theorem mask_one (h : Nearest D i) (hD : ∀ m, k0_pay4 v0 v4 (ix2 m n) = D m) (m : Fin 1024) :
    k0_pay6 v0 v4 (ix2 m n) = BitVec.ofBool (decide (m = i 0)) := by
  pointwise [k0_pay6]
  simp only [hD, min_one h hD, h.eq0]

/-- Round one's one-hot product reads row `c` of the values at the nearest point. -/
theorem gather_one (h : Nearest D i) (hD : ∀ m, k0_pay4 v0 v4 (ix2 m n) = D m) (v7 : FVec Ideal S67x1024 .f32) (c : Fin 67) :
    k0_pay8 v7 (k0_pay7 v0 v4) (constant S67x4096 .f32 0x00000000#32) (ix2 c n) = v7 (ix2 c (i 0)) := by
  pointwise [k0_pay8, k0_pay7]
  simp only [mask_one h hD, sitofp_mask]
  exact sum_onehot (fun m => v7 (ix2 c m)) (i 0)

end One

/-! ## Rounds two and three, over the distances and the first mask -/

section Two

variable {v37 : FVec Ideal S1024x4096 .f32} {v41 : IVec S1024x4096 1}

/-- The distances with the nearest hidden. -/
theorem hidden_two (hD : ∀ m, v37 (ix2 m n) = D m) (hM : ∀ m, v41 (ix2 m n) = BitVec.ofBool (decide (m = i 0)))
    (m : Fin 1024) : k0_pay12 v37 v41 (ix2 m n) = hide1 D i m := by
  pointwise [k0_pay12]
  rw [hD, hM, ofBits_inf, select_mask]
  rfl

/-- Round two's minimum is the second distance. -/
theorem min_two (h : Nearest D i) (hD : ∀ m, v37 (ix2 m n) = D m)
    (hM : ∀ m, v41 (ix2 m n) = BitVec.ofBool (decide (m = i 0))) : k0_pay13 v37 v41 (ix2 0 n) = D (i 1) := by
  pointwise [k0_pay13]
  simp only [hidden_two hD hM, ofBits_inf]
  exact h.min1

/-- Round two's mask marks the second point alone. -/
theorem mask_two (h : Nearest D i) (hD : ∀ m, v37 (ix2 m n) = D m)
    (hM : ∀ m, v41 (ix2 m n) = BitVec.ofBool (decide (m = i 0))) (m : Fin 1024) :
    k0_pay14 v37 v41 (ix2 m n) = BitVec.ofBool (decide (m = i 1)) := by
  pointwise [k0_pay14]
  simp only [hidden_two hD hM, min_two h hD hM, h.eq1]

/-- Round two's one-hot product reads the values at the second point. -/
theorem gather_two (h : Nearest D i) (hD : ∀ m, v37 (ix2 m n) = D m)
    (hM : ∀ m, v41 (ix2 m n) = BitVec.ofBool (decide (m = i 0))) (v7 : FVec Ideal S67x1024 .f32) (c : Fin 67) :
    k0_pay15 v7 v37 v41 (ix2 c n) = v7 (ix2 c (i 1)) := by
  pointwise [k0_pay15]
  simp only [mask_two h hD hM, sitofp_mask]
  exact sum_onehot (fun m => v7 (ix2 c m)) (i 1)

/-- The distances with the two nearest hidden. -/
theorem hidden_three (h : Nearest D i) (hD : ∀ m, v37 (ix2 m n) = D m)
    (hM : ∀ m, v41 (ix2 m n) = BitVec.ofBool (decide (m = i 0))) (m : Fin 1024) :
    k0_pay19 v37 v41 (ix2 m n) = hide2 D i m := by
  pointwise [k0_pay19]
  rw [mask_two h hD hM, hidden_two hD hM, ofBits_inf, select_mask]
  rfl

/-- Round three's minimum is the third distance. -/
theorem min_three (h : Nearest D i) (hD : ∀ m, v37 (ix2 m n) = D m)
    (hM : ∀ m, v41 (ix2 m n) = BitVec.ofBool (decide (m = i 0))) : k0_pay20 v37 v41 (ix2 0 n) = D (i 2) := by
  pointwise [k0_pay20]
  simp only [hidden_three h hD hM, ofBits_inf]
  exact h.min2

/-- Round three's one-hot product reads the values at the third point. -/
theorem gather_three (h : Nearest D i) (hD : ∀ m, v37 (ix2 m n) = D m)
    (hM : ∀ m, v41 (ix2 m n) = BitVec.ofBool (decide (m = i 0))) (v7 : FVec Ideal S67x1024 .f32) (c : Fin 67) :
    k0_pay22 v7 (k0_pay19 v37 v41) (k0_pay21 v37 v41) (ix2 c n) = v7 (ix2 c (i 2)) := by
  pointwise [k0_pay22, k0_pay21]
  simp only [hidden_three h hD hM, min_three h hD hM, h.eq2, sitofp_mask]
  exact sum_onehot (fun m => v7 (ix2 c m)) (i 2)

end Two

end Cert.Three

end
-- ==== Proof.Answer.lean ====
/- What is computed for one query point, as plain functions of numbers: the weights in the kernel's form and in the
   reference's form, which are equal, and the interpolation and the two-layer network over them. -/
module

public import proofs.«01_k».proof.Proof.Nearest

@[expose] public section

noncomputable section

namespace Cert.Three

open Idealize.ShloMosaic

/-- The squared distance of two points of space. -/
def sq (u v : Fin 3 → EReal) : EReal := ∑ c, (u c - v c) * (u c - v c)

/-- The inverse distance of a squared distance, the distance kept above `eps`. -/
def recip (x : EReal) : EReal := Ideal.div 1 (max (Ideal.sqrt x) eps)

/-- The sum of three inverse distances. -/
def invSum (x : Fin 3 → EReal) : EReal := recip (x 0) + recip (x 1) + recip (x 2)

/-- The kernel's weight: the product of the two inverse distances times one over the product of the two sums. -/
def weightK (d e : Fin 3 → EReal) (k : Fin 3) : EReal :=
  recip (d k) * recip (e k) * Ideal.div 1 (invSum d * invSum e)

/-- The reference's weight: the product of the two normalised inverse distances. -/
def weightR (d e : Fin 3 → EReal) (k : Fin 3) : EReal :=
  Ideal.div (recip (d k)) (invSum d) * Ideal.div (recip (e k)) (invSum e)

/-- Channel `c` interpolated from the three neighbours' values `p` by the weights `w`. -/
def interp (w : Fin 3 → EReal) (p : Fin 3 → Fin 64 → EReal) (c : Fin 64) : EReal :=
  w 0 * p 0 c + w 1 * p 1 c + w 2 * p 2 c

/-- Hidden unit `x`: the first layer over the interpolated channels `f` followed by the query's own channels `g`, with its
    bias, cut at zero. -/
def hidden (W : Fin 128 → Fin 128 → EReal) (b : Fin 128 → EReal) (f g : Fin 64 → EReal) (x : Fin 128) : EReal :=
  max (∑ c : Fin 64, W x ⟨c.val, by omega⟩ * f c + ∑ c : Fin 64, W x ⟨64 + c.val, by omega⟩ * g c + b x) 0

/-- Output unit `o`: the second layer over the hidden units, with its bias, cut at zero. -/
def outUnit (W : Fin 128 → Fin 128 → EReal) (b : Fin 128 → EReal) (h : Fin 128 → EReal) (o : Fin 128) : EReal :=
  max (∑ x, W o x * h x + b o) 0

/-- A non-negative real's inverse distance is a positive real. -/
theorem recip_pos {x : EReal} (h0 : 0 ≤ x) (ht : x ≠ ⊤) : ∃ r : ℝ, 0 < r ∧ recip x = (r : EReal) := by
  obtain ⟨y, rfl⟩ : ∃ y : ℝ, x = (y : EReal) :=
    ⟨x.toReal, (EReal.coe_toReal ht (fun e => by rw [e] at h0; exact absurd h0 (by simp))).symm⟩
  have hy : (0 : ℝ) ≤ y := by exact_mod_cast h0
  obtain ⟨e, he, heq⟩ := eps_pos
  have hs : Ideal.sqrt (y : EReal) = ((Real.sqrt y : ℝ) : EReal) := by
    show (if y < 0 then ⊥ else ((Real.sqrt y : ℝ) : EReal)) = _
    rw [if_neg (not_lt.mpr hy)]
  have hm : max (Ideal.sqrt (y : EReal)) eps = ((max (Real.sqrt y) e : ℝ) : EReal) := by
    rw [hs, heq]; exact (EReal.coe_strictMono.monotone.map_max).symm
  have hp : 0 < max (Real.sqrt y) e := lt_max_of_lt_right he
  refine ⟨(max (Real.sqrt y) e)⁻¹, _root_.inv_pos.mpr hp, ?_⟩
  unfold recip
  rw [hm, Ideal.div, if_neg (by exact_mod_cast hp.ne'), one_mul, EReal.coe_inv]

/-- A quotient of reals with a nonzero divisor is the real quotient. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The two forms of the weights are equal when the squared distances are non-negative reals. -/
theorem weight_eq {d e : Fin 3 → EReal} (hd : ∀ k, 0 ≤ d k) (hd' : ∀ k, d k ≠ ⊤) (he : ∀ k, 0 ≤ e k) (he' : ∀ k, e k ≠ ⊤)
    (k : Fin 3) : weightK d e k = weightR d e k := by
  choose a ha hae using fun k => recip_pos (hd k) (hd' k)
  choose b hb hbe using fun k => recip_pos (he k) (he' k)
  have hA : invSum d = ((a 0 + a 1 + a 2 : ℝ) : EReal) := by simp [invSum, hae]
  have hB : invSum e = ((b 0 + b 1 + b 2 : ℝ) : EReal) := by simp [invSum, hbe]
  have hA0 : a 0 + a 1 + a 2 ≠ 0 := by have := ha 0; have := ha 1; have := ha 2; positivity
  have hB0 : b 0 + b 1 + b 2 ≠ 0 := by have := hb 0; have := hb 1; have := hb 2; positivity
  unfold weightK weightR
  rw [hA, hB, hae, hbe, div_coe _ _ hA0, div_coe _ _ hB0, ← EReal.coe_mul, ← EReal.coe_mul, ← EReal.coe_mul,
    show (1 : EReal) = ((1 : ℝ) : EReal) from rfl, div_coe _ _ (mul_ne_zero hA0 hB0), ← EReal.coe_mul]
  congr 1
  field_simp

/-- A squared distance of two points with finite coordinates is a non-negative real. -/
theorem sq_coe (u v : Fin 3 → ℝ) :
    sq (fun c => (u c : EReal)) (fun c => (v c : EReal)) = ((∑ c, (u c - v c) * (u c - v c) : ℝ) : EReal) := by
  simp only [sq, Fin.sum_univ_three, EReal.coe_add, EReal.coe_mul, EReal.coe_sub]

/-- The squared distance written out, as the kernel computes it: the two squared lengths and the mixed terms. -/
def sqK (u v : Fin 3 → EReal) : EReal :=
  (∑ c, v c * v c) + (u 0 * u 0 + u 1 * u 1 + u 2 * u 2)
    + (((-2 : ℝ) : EReal) * v 0 * u 0 + ((-2 : ℝ) : EReal) * v 1 * u 1 + ((-2 : ℝ) : EReal) * v 2 * u 2)

/-- On finite coordinates it is the squared distance. -/
theorem sqK_eq (u v : Fin 3 → ℝ) :
    sqK (fun c => (u c : EReal)) (fun c => (v c : EReal)) = sq (fun c => (u c : EReal)) (fun c => (v c : EReal)) := by
  rw [sq_coe]
  simp only [sqK, Fin.sum_univ_three, ← EReal.coe_add, ← EReal.coe_mul]
  congr 1
  ring

end Cert.Three

end
-- ==== Proof.Block.lean ====
/- One grid point of the kernel: the block it writes, one output element at a time, from the blocks it reads. -/
module

public import proofs.«01_k».proof.Proof.Search
public import proofs.«01_k».proof.Proof.Answer
public import Idealize.ShloMosaic.Lib.Pipeline.ValueKit

@[expose] public section

noncomputable section

namespace Cert.Three

open Idealize.ShloMosaic Idealize.SL.Sem Cert.KernelIdeal Cert.KernelIdeal.Gen

/-- The kernel's squared distance from query column `n` of the block to known point `m`. -/
def blockDist (x0 : Vec Ideal S1x3x4096 .f32) (x1 : Vec Ideal S1x1024x4 .f32) (n : Fin 4096) (m : Fin 1024) : EReal :=
  x1 (ix3 0 m 3) + (x0 (ix3 0 0 n) * x0 (ix3 0 0 n) + x0 (ix3 0 1 n) * x0 (ix3 0 1 n) + x0 (ix3 0 2 n) * x0 (ix3 0 2 n))
    + (x1 (ix3 0 m 0) * x0 (ix3 0 0 n) + x1 (ix3 0 m 1) * x0 (ix3 0 1 n) + x1 (ix3 0 m 2) * x0 (ix3 0 2 n))

/-- The squared distance of query column `n`'s normal from known point `m`'s normal. -/
def blockNormal (x2 : Vec Ideal S1x3x4096 .f32) (x3 : Vec Ideal S1x67x1024 .f32) (n : Fin 4096) (m : Fin 1024) : EReal :=
  sq (fun c => x2 (ix3 0 c n)) (fun c => x3 (ix3 0 ⟨c.val, by omega⟩ m))

/-- Known point `m`'s feature channel `c`. -/
def blockFeature (x3 : Vec Ideal S1x67x1024 .f32) (m : Fin 1024) (c : Fin 64) : EReal :=
  x3 (ix3 0 ⟨3 + c.val, by omega⟩ m)

variable {x0 : Vec Ideal S1x3x4096 .f32} {x1 : Vec Ideal S1x1024x4 .f32} {i : Fin 3 → Fin 1024} {n : Fin 4096}

/-- The distance matrix holds `blockDist`. -/
theorem pay4_apply (m : Fin 1024) : k0_pay4 x0 x1 (ix2 m n) = blockDist x0 x1 n m := by
  pointwise [k0_pay4]
  rfl

/-! ## The inverse distances -/

/-- The first inverse distance from the column's least squared distance. -/
theorem pay24_apply (w : FVec Ideal S1x4096 .f32) : k0_pay24 (k0_pay9 w) (ix2 0 n) = recip (max (w (ix2 0 n)) 0) := by
  pointwise [k0_pay24, k0_pay9]
  simp only [recip, eps]

/-- The second one's clip and square root. -/
theorem pay16_apply (v37 : FVec Ideal S1024x4096 .f32) (v41 : IVec S1024x4096 1) :
    k0_pay16 v37 v41 (ix2 0 n) = Ideal.sqrt (max (k0_pay13 v37 v41 (ix2 0 n)) 0) := by
  have e : ∀ w : FVec Ideal S1x4096 .f32,
      Idealize.ShloMosaic.sqrt (maximumf w (broadcast S1x4096 (Scalar.ofBits .f32 0x00000000#32))) (ix2 0 n)
        = Ideal.sqrt (max (w (ix2 0 n)) 0) := by
    intro w
    pointwise []
  exact e _

/-- The second one's reciprocal. -/
theorem pay25_apply (w : FVec Ideal S1x4096 .f32) : k0_pay25 w (ix2 0 n) = Ideal.div 1 (max (w (ix2 0 n)) eps) := by
  pointwise [k0_pay25]
  simp only [eps]

/-- The third inverse distance from the column's third squared distance. -/
theorem pay26_apply (w : FVec Ideal S1x4096 .f32) : k0_pay26 w (ix2 0 n) = recip (max (w (ix2 0 n)) 0) := by
  pointwise [k0_pay26]
  simp only [recip, eps]

/-- Their sum. -/
theorem pay27_apply (a b c : FVec Ideal S1x4096 .f32) :
    k0_pay27 a b c (ix2 0 n) = k0_pay24 a (ix2 0 n) + k0_pay25 b (ix2 0 n) + k0_pay26 c (ix2 0 n) := by
  unfold k0_pay27
  generalize k0_pay24 a = a', k0_pay25 b = b', k0_pay26 c = c'
  pointwise []

theorem recip_d0 (h : Nearest (blockDist x0 x1 n) i) :
    k0_pay24 (k0_pay9 (k0_pay5 x0 x1)) (ix2 0 n) = recip (max (blockDist x0 x1 n (i 0)) 0) :=
  (pay24_apply _).trans (congrArg (fun z => recip (max z 0)) (min_one h pay4_apply))

theorem recip_d1 (h : Nearest (blockDist x0 x1 n) i) :
    k0_pay25 (k0_pay16 (k0_pay4 x0 x1) (k0_pay6 x0 x1)) (ix2 0 n) = recip (max (blockDist x0 x1 n (i 1)) 0) := by
  refine (pay25_apply _).trans ?_
  rw [recip, pay16_apply, min_two h pay4_apply (mask_one h pay4_apply)]

theorem recip_d2 (h : Nearest (blockDist x0 x1 n) i) :
    k0_pay26 (k0_pay20 (k0_pay4 x0 x1) (k0_pay6 x0 x1)) (ix2 0 n) = recip (max (blockDist x0 x1 n (i 2)) 0) :=
  (pay26_apply _).trans (congrArg (fun z => recip (max z 0)) (min_three h pay4_apply (mask_one h pay4_apply)))

/-- Their sum. -/
theorem recip_d_sum (h : Nearest (blockDist x0 x1 n) i) :
    k0_pay27 (k0_pay9 (k0_pay5 x0 x1)) (k0_pay16 (k0_pay4 x0 x1) (k0_pay6 x0 x1)) (k0_pay20 (k0_pay4 x0 x1) (k0_pay6 x0 x1))
      (ix2 0 n) = invSum fun k => max (blockDist x0 x1 n (i k)) 0 := by
  refine (pay27_apply _ _ _).trans ?_
  rw [recip_d0 h, recip_d1 h, recip_d2 h, invSum]

/-! ## The inverse distances of the normals -/

variable {x2 : Vec Ideal S1x3x4096 .f32} {x3 : Vec Ideal S1x67x1024 .f32}

/-- The query's normal, a row per coordinate. -/
theorem pay2_apply (c : Fin 3) : k0_pay2 x2 (ix2 c n) = x2 (ix3 0 c n) := by
  pointwise [k0_pay2]

/-- The known points' normals and features, a row per channel. -/
theorem pay3_apply (c : Fin 67) (m : Fin 1024) : k0_pay3 x3 (ix2 c m) = x3 (ix3 0 c m) := by
  pointwise [k0_pay3]

/-- The squared distance of a normal from a gathered one. -/
def rowsSq (q : FVec Ideal S3x4096 .f32) (g : FVec Ideal S67x4096 .f32) (n : Fin 4096) : EReal :=
  sq (fun c => q (ix2 c n)) (fun c => g (ix2 ⟨c.val, by omega⟩ n))

theorem rowsSq_eq {q : FVec Ideal S3x4096 .f32} {g : FVec Ideal S67x4096 .f32} {v7 : FVec Ideal S67x1024 .f32} {m : Fin 1024}
    (hq : ∀ c, q (ix2 c n) = x2 (ix3 0 c n)) (h7 : ∀ c k, v7 (ix2 c k) = x3 (ix3 0 c k))
    (hg : ∀ c, g (ix2 c n) = v7 (ix2 c m)) : rowsSq q g n = blockNormal x2 x3 n m := by
  simp only [rowsSq, blockNormal, hq, hg, h7]

theorem pay28_apply (v3 : FVec Ideal S3x4096 .f32) (v7 : FVec Ideal S67x1024 .f32) (v43 : FVec Ideal S1024x4096 .f32)
    (z : FVec Ideal S67x4096 .f32) : k0_pay28 (k0_pay10 v3 v7 v43 z) (ix2 0 n) = recip (rowsSq v3 (k0_pay8 v7 v43 z) n) := by
  unfold k0_pay28 k0_pay10
  generalize k0_pay8 v7 v43 z = g
  pointwise []
  simp only [recip, eps, rowsSq, sq, Fin.sum_univ_three]
  rfl

theorem pay29_apply (v3 : FVec Ideal S3x4096 .f32) (v7 : FVec Ideal S67x1024 .f32) (v37 : FVec Ideal S1024x4096 .f32)
    (v41 : IVec S1024x4096 1) : k0_pay29 (k0_pay17 v3 v7 v37 v41) (ix2 0 n) = recip (rowsSq v3 (k0_pay15 v7 v37 v41) n) := by
  unfold k0_pay29 k0_pay17
  generalize k0_pay15 v7 v37 v41 = g
  pointwise []
  simp only [recip, eps, rowsSq, sq, Fin.sum_univ_three]
  rfl

theorem pay30_apply (v3 : FVec Ideal S3x4096 .f32) (v7 : FVec Ideal S67x1024 .f32) (v93 v96 : FVec Ideal S1024x4096 .f32) :
    Ideal.div 1 (k0_pay30 v3 v7 v93 v96 (ix2 0 n)) = recip (rowsSq v3 (k0_pay22 v7 v93 v96) n) := by
  unfold k0_pay30
  generalize k0_pay22 v7 v93 v96 = g
  pointwise []
  simp only [recip, eps, rowsSq, sq, Fin.sum_univ_three]
  rfl

theorem recip_n0 (h : Nearest (blockDist x0 x1 n) i) :
    k0_pay28 (k0_pay10 (k0_pay2 x2) (k0_pay3 x3) (k0_pay7 x0 x1) (constant S67x4096 .f32 0x00000000#32)) (ix2 0 n)
      = recip (blockNormal x2 x3 n (i 0)) :=
  (pay28_apply _ _ _ _).trans (congrArg recip (rowsSq_eq pay2_apply pay3_apply (gather_one h pay4_apply _)))

theorem recip_n1 (h : Nearest (blockDist x0 x1 n) i) :
    k0_pay29 (k0_pay17 (k0_pay2 x2) (k0_pay3 x3) (k0_pay4 x0 x1) (k0_pay6 x0 x1)) (ix2 0 n)
      = recip (blockNormal x2 x3 n (i 1)) :=
  (pay29_apply _ _ _ _).trans (congrArg recip (rowsSq_eq pay2_apply pay3_apply
    (gather_two h pay4_apply (mask_one h pay4_apply) _)))

theorem recip_n2 (h : Nearest (blockDist x0 x1 n) i) :
    Ideal.div 1 (k0_pay30 (k0_pay2 x2) (k0_pay3 x3) (k0_pay19 (k0_pay4 x0 x1) (k0_pay6 x0 x1))
        (k0_pay21 (k0_pay4 x0 x1) (k0_pay6 x0 x1)) (ix2 0 n))
      = recip (blockNormal x2 x3 n (i 2)) :=
  (pay30_apply _ _ _ _).trans (congrArg recip (rowsSq_eq pay2_apply pay3_apply
    (gather_three h pay4_apply (mask_one h pay4_apply) _)))

/-! ## The neighbours' features -/

theorem pay11_apply (v7 : FVec Ideal S67x1024 .f32) (v43 : FVec Ideal S1024x4096 .f32) (z : FVec Ideal S67x4096 .f32) (c : Fin 64) :
    k0_pay11 v7 v43 z (ix2 c n) = k0_pay8 v7 v43 z (ix2 ⟨3 + c.val, by omega⟩ n) := by
  pointwise [k0_pay11]

theorem pay18_apply (v7 : FVec Ideal S67x1024 .f32) (v37 : FVec Ideal S1024x4096 .f32) (v41 : IVec S1024x4096 1) (c : Fin 64) :
    k0_pay18 v7 v37 v41 (ix2 c n) = k0_pay15 v7 v37 v41 (ix2 ⟨3 + c.val, by omega⟩ n) := by
  pointwise [k0_pay18]

theorem pay23_apply (v7 : FVec Ideal S67x1024 .f32) (v93 v96 : FVec Ideal S1024x4096 .f32) (c : Fin 64) :
    k0_pay23 v7 v93 v96 (ix2 c n) = k0_pay22 v7 v93 v96 (ix2 ⟨3 + c.val, by omega⟩ n) := by
  pointwise [k0_pay23]

theorem feature0 (h : Nearest (blockDist x0 x1 n) i) (c : Fin 64) :
    k0_pay11 (k0_pay3 x3) (k0_pay7 x0 x1) (constant S67x4096 .f32 0x00000000#32) (ix2 c n) = blockFeature x3 (i 0) c :=
  (pay11_apply _ _ _ c).trans ((gather_one h pay4_apply _ _).trans (pay3_apply _ _))

theorem feature1 (h : Nearest (blockDist x0 x1 n) i) (c : Fin 64) :
    k0_pay18 (k0_pay3 x3) (k0_pay4 x0 x1) (k0_pay6 x0 x1) (ix2 c n) = blockFeature x3 (i 1) c :=
  (pay18_apply _ _ _ c).trans ((gather_two h pay4_apply (mask_one h pay4_apply) _ _).trans (pay3_apply _ _))

theorem feature2 (h : Nearest (blockDist x0 x1 n) i) (c : Fin 64) :
    k0_pay23 (k0_pay3 x3) (k0_pay19 (k0_pay4 x0 x1) (k0_pay6 x0 x1)) (k0_pay21 (k0_pay4 x0 x1) (k0_pay6 x0 x1)) (ix2 c n)
      = blockFeature x3 (i 2) c :=
  (pay23_apply _ _ _ c).trans ((gather_three h pay4_apply (mask_one h pay4_apply) _ _).trans (pay3_apply _ _))

/-! ## The network -/

/-- The kernel's last part at output unit `o` and column `n`: the two-layer network over the weighted sum of three feature
    rows `f0 f1 f2` and the query's own features, the weights from the inverse distances `a0 a1 a2` of sum `s` and `b0 b1 1/b2`. -/
theorem net_apply (f0 f1 f2 : FVec Ideal S64x4096 .f32) (a0 a1 a2 s b0 b1 b2 : FVec Ideal S1x4096 .f32)
    (x4 : Vec Ideal S1x64x4096 .f32) (x5 : Vec Ideal S128x128 .f32) (x6 : Vec Ideal S128x1 .f32) (x7 : Vec Ideal S128x128 .f32)
    (x8 : Vec Ideal S128x1 .f32) (o : Fin 128) (d e : Fin 3 → EReal) (f : Fin 3 → Fin 64 → EReal)
    (hf0 : ∀ c, f0 (ix2 c n) = f 0 c) (hf1 : ∀ c, f1 (ix2 c n) = f 1 c) (hf2 : ∀ c, f2 (ix2 c n) = f 2 c)
    (ha0 : a0 (ix2 0 n) = recip (d 0)) (ha1 : a1 (ix2 0 n) = recip (d 1)) (ha2 : a2 (ix2 0 n) = recip (d 2))
    (hs : s (ix2 0 n) = invSum d)
    (hb0 : b0 (ix2 0 n) = recip (e 0)) (hb1 : b1 (ix2 0 n) = recip (e 1)) (hb2 : Ideal.div 1 (b2 (ix2 0 n)) = recip (e 2)) :
    k0_pay1 (k0_pay31 f0 f1 f2 a0 a1 a2 s b0 b1 b2 x4 x5 x6 x7 x8) (ix3 0 o n)
      = outUnit (fun a b => x7 (ix2 a b)) (fun a => x8 (ix2 a 0))
          (hidden (fun a b => x5 (ix2 a b)) (fun a => x6 (ix2 a 0)) (interp (weightK d e) f) (fun c => x4 (ix3 0 c n))) o := by
  pointwise [k0_pay1, k0_pay31]
  simp only [hf0, hf1, hf2, ha0, ha1, ha2, hs, hb0, hb1, hb2]
  simp only [outUnit, hidden, interp, weightK, invSum]

/-- The block a grid point writes, at output unit `o` and query column `n`: the two-layer network over the features
    interpolated from the three nearest known points by the kernel's weights. -/
theorem block_eq (h : Nearest (blockDist x0 x1 n) i) (x4 : Vec Ideal S1x64x4096 .f32) (x5 : Vec Ideal S128x128 .f32)
    (x6 : Vec Ideal S128x1 .f32) (x7 : Vec Ideal S128x128 .f32) (x8 : Vec Ideal S128x1 .f32) (o : Fin 128) :
    out0_9 x0 x1 x2 x3 x4 x5 x6 x7 x8 (ix3 0 o n)
      = outUnit (fun a b => x7 (ix2 a b)) (fun a => x8 (ix2 a 0))
          (hidden (fun a b => x5 (ix2 a b)) (fun a => x6 (ix2 a 0))
            (interp (weightK (fun k => max (blockDist x0 x1 n (i k)) 0) (fun k => blockNormal x2 x3 n (i k)))
              (fun k => blockFeature x3 (i k)))
            (fun c => x4 (ix3 0 c n))) o := by
  unfold_out out0_9
  frame_out
  exact net_apply _ _ _ _ _ _ _ _ _ _ x4 x5 x6 x7 x8 o _ _ _ (feature0 h) (feature1 h) (feature2 h) (recip_d0 h) (recip_d1 h)
    (recip_d2 h) (recip_d_sum h) (recip_n0 h) (recip_n1 h) (recip_n2 h)

end Cert.Three

end
-- ==== Proof.Operands.lean ====
/- The arrays the kernel's launch hands to its grid points, read at an index off the program's arguments; and each grid
   point's blocks of them. -/
module

public import proofs.«01_k».proof.Proof.Block
public import Idealize.ShloMosaic.Lib.Claim

@[expose] public section

noncomputable section

namespace Cert.Three

open Idealize.ShloMosaic Idealize.ShloMosaic.TcCoe Idealize.SL.Sem Cert.KernelIdeal Cert.KernelIdeal.Gen

variable (m : (ℓ : Loc nD τ sig) → Buf (Elt Ideal) ℓ) (c : Dev nD)

/-- The program's ten argument arrays. -/
abbrev a0 : FVec Ideal S8x3x4096 .f32 := m ((c : Thread nD τ).loc main_arg0)
@[inherit_doc a0] abbrev a1 : FVec Ideal S8x3x1024 .f32 := m ((c : Thread nD τ).loc main_arg1)
@[inherit_doc a0] abbrev a2 : FVec Ideal S8x3x4096 .f32 := m ((c : Thread nD τ).loc main_arg2)
@[inherit_doc a0] abbrev a3 : FVec Ideal S8x3x1024 .f32 := m ((c : Thread nD τ).loc main_arg3)
@[inherit_doc a0] abbrev a4 : FVec Ideal S8x64x4096 .f32 := m ((c : Thread nD τ).loc main_arg4)
@[inherit_doc a0] abbrev a5 : FVec Ideal S8x64x1024 .f32 := m ((c : Thread nD τ).loc main_arg5)
@[inherit_doc a0] abbrev a6 : FVec Ideal S128x128 .f32 := m ((c : Thread nD τ).loc main_arg6)
@[inherit_doc a0] abbrev a7 : FVec Ideal S128 .f32 := m ((c : Thread nD τ).loc main_arg7)
@[inherit_doc a0] abbrev a8 : FVec Ideal S128x128 .f32 := m ((c : Thread nD τ).loc main_arg8)
@[inherit_doc a0] abbrev a9 : FVec Ideal S128 .f32 := m ((c : Thread nD τ).loc main_arg9)

/-- The known points as rows. -/
def points (x : FVec Ideal S8x3x1024 .f32) : FVec Ideal S8x1024x3 .f32 :=
  transpose S8x1024x3 [0, 2, 1] x transposes_S8x3x1024_S8x1024x3_0_2_1

/-- The rows times minus two, -/
def packedCoord (x : FVec Ideal S8x3x1024 .f32) : FVec Ideal S8x1024x3 .f32 :=
  mulf (broadcastInDim S8x1024x3 ![] bcast_S_S8x1024x3 (constant S_ .f32 0xC0000000#32)) (points x)

/-- and their squared norms as a column. -/
def packedNorm (x : FVec Ideal S8x3x1024 .f32) : FVec Ideal S8x1024x1 .f32 :=
  broadcastInDim S8x1024x1 ![0, 1] bcast_S8x1024_S8x1024x1_0_1
    (Host.reduceAdd (mulf (points x) (points x)) (constant S_ .f32 0x00000000#32) reducesTo_S8x1024x3_S8x1024_d2 h_S_)

/-- What the launch computes of the known points. -/
theorem packed_eq : V m c main_call0_v6
    = concatenate S8x1024x4 2 [⟨S8x1024x3, packedCoord (a1 m c)⟩, ⟨S8x1024x1, packedNorm (a1 m c)⟩]
        concatenates_S8x1024x3_S8x1024x1_S8x1024x4_d2 := by
  entry_read
  rfl

/-- The known points' normals over their features. -/
theorem stacked_eq : V m c main_call0_v7
    = concatenate S8x67x1024 1 [⟨S8x3x1024, a3 m c⟩, ⟨S8x64x1024, a5 m c⟩]
        concatenates_S8x3x1024_S8x64x1024_S8x67x1024_d1 := by
  entry_read
  rfl

/-- The packed known points: coordinate `j` of point `k`, times minus two. -/
theorem packed_coord (b : Fin 8) (k : Fin 1024) (j : Fin 3) :
    (V m c main_call0_v6 : FVec Ideal S8x1024x4 .f32) (ix3 b k ⟨j.val, by omega⟩)
      = ((-2 : ℝ) : EReal) * a1 m c (ix3 b j k) := by
  rw [packed_eq]
  refine (concatenate_pair_apply_left (s₁ := S8x1024x3) (s₂ := S8x1024x1) (2 : Fin S8x1024x4.rank) _ _ _ _ rfl (ix3 b k j) ?_).trans ?_
  · intro q; fin_cases q <;> rfl
  · generalize a1 m c = x
    pointwise [packedCoord, points]
    rw [← ofBits_neg_two]

/-- The packed known points: the squared norm of point `k`. -/
theorem packed_norm (b : Fin 8) (k : Fin 1024) :
    (V m c main_call0_v6 : FVec Ideal S8x1024x4 .f32) (ix3 b k 3) = ∑ j : Fin 3, a1 m c (ix3 b j k) * a1 m c (ix3 b j k) := by
  rw [packed_eq]
  refine (concatenate_pair_apply_right (s₁ := S8x1024x3) (s₂ := S8x1024x1) (2 : Fin S8x1024x4.rank) _ _ _ _ rfl rfl (ix3 b k 0) ?_ rfl).trans ?_
  · intro q hq; fin_cases q
    · rfl
    · rfl
    · exact absurd rfl hq
  · generalize a1 m c = x
    pointwise [packedNorm, points]

/-- The stacked rows: the known points' normals first, -/
theorem stacked_normal (b : Fin 8) (k : Fin 1024) (j : Fin 3) :
    (V m c main_call0_v7 : FVec Ideal S8x67x1024 .f32) (ix3 b ⟨j.val, by omega⟩ k) = a3 m c (ix3 b j k) := by
  rw [stacked_eq]
  refine concatenate_pair_apply_left (s₁ := S8x3x1024) (s₂ := S8x64x1024) (1 : Fin S8x67x1024.rank) _ _ _ _ rfl (ix3 b j k) ?_
  intro q; fin_cases q <;> rfl

/-- and then their features. -/
theorem stacked_feature (b : Fin 8) (k : Fin 1024) (j : Fin 64) :
    (V m c main_call0_v7 : FVec Ideal S8x67x1024 .f32) (ix3 b ⟨3 + j.val, by omega⟩ k) = a5 m c (ix3 b j k) := by
  rw [stacked_eq]
  refine concatenate_pair_apply_right (s₁ := S8x3x1024) (s₂ := S8x64x1024) (1 : Fin S8x67x1024.rank) _ _ _ _ rfl rfl (ix3 b j k) ?_ (Nat.add_comm _ _)
  intro q hq; fin_cases q
  · rfl
  · exact absurd rfl hq
  · rfl

/-- The first layer's bias as a column. -/
theorem bias_one (a : Fin 128) : (V m c main_call0_v8 : FVec Ideal S128x1 .f32) (ix2 a 0) = a7 m c (ix1 a) := by
  entry_read
  pointwise []

/-- The second layer's bias as a column. -/
theorem bias_two (a : Fin 128) : (V m c main_call0_v9 : FVec Ideal S128x1 .f32) (ix2 a 0) = a9 m c (ix1 a) := by
  entry_read
  pointwise []

/-- The block indices of every window at a grid point: batch element `t`, or the whole array. -/
theorem idx : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![0, 0]
      ∧ win0_6.index t = ![0, 0] ∧ win0_7.index t = ![0, 0] ∧ win0_8.index t = ![0, 0] ∧ win0_9.index t = ![t.val, 0, 0] := by
  decide +kernel

/-- The batch element of a grid point. -/
abbrev batch (t : Fin cfg0.N) : Fin 8 := ⟨t.val, t.isLt⟩

theorem iblk0 (t : Fin cfg0.N) (j : Fin 3) (n : Fin 4096) :
    iblk m c 0 t (ix3 0 j n) = a0 m c (ix3 (batch t) j n) := by
  blk_ext [iblk, V, idx t]

theorem iblk1 (t : Fin cfg0.N) (k : Fin 1024) (j : Fin 4) :
    iblk m c 1 t (ix3 0 k j) = V m c main_call0_v6 (ix3 (batch t) k j) := by
  blk_ext [iblk, idx t]

theorem iblk2 (t : Fin cfg0.N) (j : Fin 3) (n : Fin 4096) :
    iblk m c 2 t (ix3 0 j n) = a2 m c (ix3 (batch t) j n) := by
  blk_ext [iblk, V, idx t]

theorem iblk3 (t : Fin cfg0.N) (j : Fin 67) (k : Fin 1024) :
    iblk m c 3 t (ix3 0 j k) = V m c main_call0_v7 (ix3 (batch t) j k) := by
  blk_ext [iblk, idx t]

theorem iblk4 (t : Fin cfg0.N) (j : Fin 64) (n : Fin 4096) :
    iblk m c 4 t (ix3 0 j n) = a4 m c (ix3 (batch t) j n) := by
  blk_ext [iblk, V, idx t]

theorem iblk5 (t : Fin cfg0.N) (a b : Fin 128) :
    iblk m c 5 t (ix2 a b) = a6 m c (ix2 a b) := by
  blk_ext [iblk, V, idx t]

theorem iblk6 (t : Fin cfg0.N) (a : Fin 128) : iblk m c 6 t (ix2 a 0) = V m c main_call0_v8 (ix2 a 0) := by
  blk_ext [iblk, idx t]

theorem iblk7 (t : Fin cfg0.N) (a b : Fin 128) :
    iblk m c 7 t (ix2 a b) = a8 m c (ix2 a b) := by
  blk_ext [iblk, V, idx t]

theorem iblk8 (t : Fin cfg0.N) (a : Fin 128) : iblk m c 8 t (ix2 a 0) = V m c main_call0_v9 (ix2 a 0) := by
  blk_ext [iblk, idx t]

end Cert.Three

end
-- ==== Proof.Model.lean ====
/- The result as plain mathematics over the ten argument arrays, which both programs are read as. -/
module

public import proofs.«01_k».proof.Proof.Answer
public import proofs.«01_k».proof.Proof.Nearest
public import Idealize.ShloMosaic.Lib.ValueIdx

@[expose] public section

noncomputable section

namespace Cert.Three

open Idealize.ShloMosaic

/-- An array of a given shape, its entries extended reals. -/
abbrev Arr (s : Shape) : Type := s.Idx → EReal

/-- The squared distance, in batch element `b`, from column `n` of `p` to column `k` of `q`. -/
def dist (p : Arr ⟨3, ![8, 3, 4096]⟩) (q : Arr ⟨3, ![8, 3, 1024]⟩) (b : Fin 8) (n : Fin 4096) (k : Fin 1024) : EReal :=
  sq (fun j => p (ix3 b j n)) (fun j => q (ix3 b j k))

/-- Output unit `o` at column `n` of batch element `b`: the two-layer network over the features of the three known points
    `i`, weighted by `w` of their squared distances `d` and of their normals' squared distances `e`, and the column's own features. -/
def answer (w : (Fin 3 → EReal) → (Fin 3 → EReal) → Fin 3 → EReal) (f : Arr ⟨3, ![8, 64, 4096]⟩) (g : Arr ⟨3, ![8, 64, 1024]⟩)
    (W : Arr ⟨2, ![128, 128]⟩) (u : Arr ⟨1, ![128]⟩) (W' : Arr ⟨2, ![128, 128]⟩) (u' : Arr ⟨1, ![128]⟩)
    (d e : Fin 1024 → EReal) (i : Fin 3 → Fin 1024) (b : Fin 8) (o : Fin 128) (n : Fin 4096) : EReal :=
  outUnit (fun a b => W' (ix2 a b)) (fun a => u' (ix1 a))
    (hidden (fun a b => W (ix2 a b)) (fun a => u (ix1 a))
      (interp (w (fun k => d (i k)) (fun k => e (i k))) (fun k c => g (ix3 b c (i k))))
      (fun c => f (ix3 b c n))) o

end Cert.Three

end
-- ==== Proof.KernelValue.lean ====
/- The kernel program's result array, element by element, for arguments whose nearest known points are known. -/
module

public import proofs.«01_k».proof.Proof.Operands
public import proofs.«01_k».proof.Proof.Model

@[expose] public section

noncomputable section

namespace Cert.Three

open Idealize.ShloMosaic Idealize.ShloMosaic.TcCoe Idealize.SL.Sem Cert.KernelIdeal Cert.KernelIdeal.Gen

variable (m : (ℓ : Loc nD τ sig) → Buf (Elt Ideal) ℓ) (c : Dev nD)

/-- A grid point's distances are the expanded squared distances of its batch element. -/
theorem blockDist_eq (t : Fin cfg0.N) (n : Fin 4096) (k : Fin 1024) :
    blockDist (iblk m c 0 t) (iblk m c 1 t) n k
      = sqK (fun j => a0 m c (ix3 (batch t) j n)) (fun j => a1 m c (ix3 (batch t) j k)) := by
  have q (j : Fin 3) : (iblk m c 0 t : Vec Ideal S1x3x4096 .f32) (ix3 0 j n) = a0 m c (ix3 (batch t) j n) := iblk0 m c t j n
  have p3 : (iblk m c 1 t : Vec Ideal S1x1024x4 .f32) (ix3 0 k 3) = _ := (iblk1 m c t k 3).trans (packed_norm m c (batch t) k)
  have p0 : (iblk m c 1 t : Vec Ideal S1x1024x4 .f32) (ix3 0 k 0) = _ := (iblk1 m c t k 0).trans (packed_coord m c (batch t) k 0)
  have p1 : (iblk m c 1 t : Vec Ideal S1x1024x4 .f32) (ix3 0 k 1) = _ := (iblk1 m c t k 1).trans (packed_coord m c (batch t) k 1)
  have p2 : (iblk m c 1 t : Vec Ideal S1x1024x4 .f32) (ix3 0 k 2) = _ := (iblk1 m c t k 2).trans (packed_coord m c (batch t) k 2)
  unfold blockDist sqK
  rw [p0, p1, p2, p3, q 0, q 1, q 2]

/-- A grid point's normal distances are those of its batch element. -/
theorem blockNormal_eq (t : Fin cfg0.N) (n : Fin 4096) (k : Fin 1024) :
    blockNormal (iblk m c 2 t) (iblk m c 3 t) n k = dist (a2 m c) (a3 m c) (batch t) n k := by
  unfold blockNormal dist
  congr 1
  · funext j; exact iblk2 m c t j n
  · funext j; exact (iblk3 m c t _ k).trans (stacked_normal m c (batch t) k j)

/-- A grid point's known features are those of its batch element. -/
theorem blockFeature_eq (t : Fin cfg0.N) (k : Fin 1024) (j : Fin 64) :
    blockFeature (iblk m c 3 t) k j = a5 m c (ix3 (batch t) j k) :=
  (iblk3 m c t _ k).trans (stacked_feature m c (batch t) k j)

/-- The kernel's result at unit `o`, column `n` of batch element `b`, from the three known points `i`. -/
def kernelAt (I : Fin 8 → Fin 4096 → Fin 3 → Fin 1024) (b : Fin 8) (o : Fin 128) (n : Fin 4096) : EReal :=
  answer weightK (a4 m c) (a5 m c) (a6 m c) (a7 m c) (a8 m c) (a9 m c)
    (fun k => max (dist (a0 m c) (a1 m c) b n k) 0) (dist (a2 m c) (a3 m c) b n) (I b n) b o n

variable {m c} {I : Fin 8 → Fin 4096 → Fin 3 → Fin 1024}

/-- What a grid point writes is the result of its batch element, when the expanded squared distances are the squared
    distances and `I` names each column's three nearest known points. -/
theorem point_eq
    (hs : ∀ b n k, sqK (fun j => a0 m c (ix3 b j n)) (fun j => a1 m c (ix3 b j k)) = dist (a0 m c) (a1 m c) b n k)
    (hI : ∀ b n, Nearest (dist (a0 m c) (a1 m c) b n) (I b n)) (t : Fin cfg0.N) (o : Fin 128) (n : Fin 4096) :
    out0_9 (iblk m c 0 t) (iblk m c 1 t) (iblk m c 2 t) (iblk m c 3 t) (iblk m c 4 t) (iblk m c 5 t) (iblk m c 6 t) (iblk m c 7 t)
        (iblk m c 8 t) (ix3 0 o n) = kernelAt m c I (batch t) o n := by
  have hd : blockDist (iblk m c 0 t) (iblk m c 1 t) n = dist (a0 m c) (a1 m c) (batch t) n :=
    funext fun k => (blockDist_eq m c t n k).trans (hs _ _ _)
  have h : Nearest (blockDist (iblk m c 0 t) (iblk m c 1 t) n) (I (batch t) n) := by rw [hd]; exact hI _ _
  refine (block_eq h (iblk m c 4 t) (iblk m c 5 t) (iblk m c 6 t) (iblk m c 7 t) (iblk m c 8 t) o).trans ?_
  have e4 : (fun j => (iblk m c 4 t : Vec Ideal S1x64x4096 .f32) (ix3 0 j n)) = fun j => a4 m c (ix3 (batch t) j n) :=
    funext fun j => iblk4 m c t j n
  have e5 : (fun a b => (iblk m c 5 t : Vec Ideal S128x128 .f32) (ix2 a b)) = fun a b => a6 m c (ix2 a b) :=
    funext fun a => funext fun b => iblk5 m c t a b
  have e6 : (fun a => (iblk m c 6 t : Vec Ideal S128x1 .f32) (ix2 a 0)) = fun a => a7 m c (ix1 a) :=
    funext fun a => (iblk6 m c t a).trans (bias_one m c a)
  have e7 : (fun a b => (iblk m c 7 t : Vec Ideal S128x128 .f32) (ix2 a b)) = fun a b => a8 m c (ix2 a b) :=
    funext fun a => funext fun b => iblk7 m c t a b
  have e8 : (fun a => (iblk m c 8 t : Vec Ideal S128x1 .f32) (ix2 a 0)) = fun a => a9 m c (ix1 a) :=
    funext fun a => (iblk8 m c t a).trans (bias_two m c a)
  have en : (fun k => blockNormal (iblk m c 2 t) (iblk m c 3 t) n (I (batch t) n k))
      = fun k => dist (a2 m c) (a3 m c) (batch t) n (I (batch t) n k) := funext fun k => blockNormal_eq m c t n _
  have ef : (fun k => blockFeature (iblk m c 3 t) (I (batch t) n k)) = fun k j => a5 m c (ix3 (batch t) j (I (batch t) n k)) :=
    funext fun k => funext fun j => blockFeature_eq m c t _ j
  rw [hd, e4, e5, e6, e7, e8, en, ef]
  rfl

/-- The output array after the run. -/
theorem result_eq
    (hs : ∀ b n k, sqK (fun j => a0 m c (ix3 b j n)) (fun j => a1 m c (ix3 b j k)) = dist (a0 m c) (a1 m c) b n k)
    (hI : ∀ b n, Nearest (dist (a0 m c) (a1 m c) b n) (I b n)) :
    (dats m 0 c).arrAt 9 cfg0.N = fun y => kernelAt m c I (y 0) (y 1) (y 2) := by
  refine (dats m 0 c).arrAt_eq_of_covers 9 _ (by decide +kernel) fun t hf y => ?_
  blk_simp
  rw [after0_9]
  have hy : y = ix3 (0 : Fin 1) (y 1 : Fin 128) (y 2 : Fin 4096) := by
    funext q; fin_cases q
    · exact Subsingleton.elim (α := Fin 1) _ _
    · rfl
    · rfl
  refine (congrArg _ hy).trans ((point_eq hs hI t (y 1) (y 2)).trans ?_)
  have e0 : (((cfg0.win 9).blk t).view.emb y) 0 = batch t := by
    have h0 : (y 0).val < 1 := (y 0).isLt
    refine Fin.ext ?_
    blk_simp [idx t]
  have e1 : (((cfg0.win 9).blk t).view.emb y) 1 = y 1 := by
    refine Fin.ext ?_
    blk_simp [idx t]
  have e2 : (((cfg0.win 9).blk t).view.emb y) 2 = y 2 := by
    refine Fin.ext ?_
    blk_simp [idx t]
  show _ = kernelAt m c I (((cfg0.win 9).blk t).view.emb y 0) (((cfg0.win 9).blk t).view.emb y 1) (((cfg0.win 9).blk t).view.emb y 2)
  rw [e0, e1, e2]

/-- The run: the output array named as the grid leaves it, the arguments as launched. -/
theorem run_result (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c => ⟨(h c).1 9,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).1 5).trans (((dats m 0 c).arrAt_in 5 rfl _).trans ((A_eq m c 5).trans (V_main_arg6 m c))),
    ((h c).2 main_arg7 (Pipeline.mem_restRefs_of main_arg7 (by decide) (by decide))).trans (V_main_arg7 m c),
    ((h c).1 7).trans (((dats m 0 c).arrAt_in 7 rfl _).trans ((A_eq m c 7).trans (V_main_arg8 m c))),
    ((h c).2 main_arg9 (Pipeline.mem_restRefs_of main_arg9 (by decide) (by decide))).trans (V_main_arg9 m c)⟩)
    (run_main m g)

end Cert.Three

end
-- ==== Proof.Order.lean ====
/- The greatest entries of an array's rows as the host program selects them, read at an index: the row sorted; and what a
   strict order of a row's first four says of its nearest three. -/
module

public import proofs.«01_k».proof.Proof.Model
public import Idealize.ShloMosaic.Lib.SortFacts
public import Idealize.ShloMosaic.Lib.Pipeline.ValueKit

@[expose] public section

noncomputable section

namespace Cert.Three

open Idealize.ShloMosaic

/-- Where the row `x` sorted from its greatest entry on takes its `j`-th entry. -/
def greatest (x : Fin 1024 → EReal) : Fin 1024 → Fin 1024 :=
  sortedFrom fun k k' => (FloatOps.cmpfTotal (F := Ideal) (φ := .f32) .gt (x k) (x k') : BitVec 1) == 1#1

theorem greater_iff (a b : EReal) :
    ((FloatOps.cmpfTotal (F := Ideal) (φ := .f32) .gt a b : BitVec 1) == 1#1) = decide (b < a) := by
  rw [show (FloatOps.cmpfTotal (F := Ideal) (φ := .f32) .gt a b : BitVec 1) = BitVec.ofBool (decide (b < a)) from rfl]
  by_cases h : b < a <;> simp [h]

theorem greatest_injective (x : Fin 1024 → EReal) : Function.Injective (greatest x) := sortedFrom_injective _

theorem greatest_surjective (x : Fin 1024 → EReal) : Function.Surjective (greatest x) := sortedFrom_surjective _

/-- The sorted row does not increase. -/
theorem greatest_antitone (x : Fin 1024 → EReal) {i j : Fin 1024} (h : i < j) : x (greatest x j) ≤ x (greatest x i) := by
  have e := sortedFrom_noInversion
    (fun k k' => (FloatOps.cmpfTotal (F := Ideal) (φ := .f32) .gt (x k) (x k') : BitVec 1) == 1#1)
    (fun k k' => (FloatOps.cmpfTotal (F := Ideal) (φ := .f32) .gt (x k) (x k') : BitVec 1) == 1#1)
    (fun a b => by simp only [greater_iff, decide_eq_true_eq, decide_eq_false_iff_not]; exact fun h => h.not_gt)
    (fun a b => id)
    (fun a b c => by
      simp only [greater_iff, decide_eq_false_iff_not, not_lt]
      exact fun h h' => h.trans h') i j h
  rw [greater_iff] at e
  exact not_lt.mp (of_decide_eq_false e)

/-- A row of a sorted pair of arrays: both are read where the sort takes its entries. -/
theorem sort2_apply {β : Type} (x : Arr ⟨3, ![8, 4096, 1024]⟩) (y : (⟨3, ![8, 4096, 1024]⟩ : Shape).Idx → β) (b : Fin 8)
    (n : Fin 4096) (k : Fin 1024) :
    (Host.sort2 ⟨3, ![8, 4096, 1024]⟩ 2 (fun l r => FloatOps.cmpfTotal (F := Ideal) (φ := .f32) .gt l.1 r.1) x y).1 (ix3 b n k)
        = x (ix3 b n (greatest (fun p => x (ix3 b n p)) k))
      ∧ (Host.sort2 ⟨3, ![8, 4096, 1024]⟩ 2 (fun l r => FloatOps.cmpfTotal (F := Ideal) (φ := .f32) .gt l.1 r.1) x y).2 (ix3 b n k)
        = y (ix3 b n (greatest (fun p => x (ix3 b n p)) k)) := by
  have ha (p : Fin 1024) : (ix3 b n k : (⟨3, ![8, 4096, 1024]⟩ : Shape).Idx).along (2 : Fin 3) p = ix3 b n p := by
    funext q; fin_cases q <;> rfl
  unfold Host.sort2
  rw [dif_pos (show 2 < (⟨3, ![8, 4096, 1024]⟩ : Shape).rank by decide)]
  have hg : sortedFrom (fun p p' => (FloatOps.cmpfTotal (F := Ideal) (φ := .f32) .gt
      (x ((ix3 b n k : (⟨3, ![8, 4096, 1024]⟩ : Shape).Idx).along (2 : Fin 3) p))
      (x ((ix3 b n k : (⟨3, ![8, 4096, 1024]⟩ : Shape).Idx).along (2 : Fin 3) p')) : BitVec 1) == 1#1) k
        = greatest (fun p => x (ix3 b n p)) k := by
    exact congrFun (congrArg sortedFrom (funext fun p => funext fun p' => by rw [ha p, ha p'])) k
  exact ⟨congrArg x ((congrArg _ hg).trans (ha _)), congrArg y ((congrArg _ hg).trans (ha _))⟩

/-- The first `K` of a sorted row, and where they were. -/
theorem topK_apply {K : ℕ} (hK : K ≤ 1024) (x : Arr ⟨3, ![8, 4096, 1024]⟩)
    (h : (⟨3, ![8, 4096, 1024]⟩ : Shape).Slices (fun _ => 0) ⟨3, ![8, 4096, K]⟩) (b : Fin 8) (n : Fin 4096) (k : Fin K) :
    (Host.topK ⟨3, ![8, 4096, K]⟩ 2 (FloatOps.cmpfTotal (F := Ideal) (φ := .f32) .gt) x h).1 (ix3 b n k)
        = x (ix3 b n (greatest (fun p => x (ix3 b n p)) (Fin.castLE hK k)))
      ∧ (Host.topK ⟨3, ![8, 4096, K]⟩ 2 (FloatOps.cmpfTotal (F := Ideal) (φ := .f32) .gt) x h).2 (ix3 b n k)
        = BitVec.ofNat 32 (greatest (fun p => x (ix3 b n p)) (Fin.castLE hK k)).val := by
  have hj : (fun a => ⟨0 + ((ix3 b n k : (⟨3, ![8, 4096, K]⟩ : Shape).Idx) (a.cast h.1.symm)).val,
      Nat.lt_of_lt_of_le (Nat.add_lt_add_left (Fin.isLt _) _) (h.2 a)⟩ : (⟨3, ![8, 4096, 1024]⟩ : Shape).Idx)
        = ix3 b n (Fin.castLE hK k) := by
    funext a; fin_cases a <;> exact Fin.ext (Nat.zero_add _)
  let y : IVec ⟨3, ![8, 4096, 1024]⟩ 32 := fun i =>
    if hd : 2 < (⟨3, ![8, 4096, 1024]⟩ : Shape).rank then iotaInDim ⟨3, ![8, 4096, 1024]⟩ 32 ⟨2, hd⟩ i else 0#32
  let v := Host.sort2 ⟨3, ![8, 4096, 1024]⟩ 2 (fun l r => FloatOps.cmpfTotal (F := Ideal) (φ := .f32) .gt l.1 r.1) x y
  have hv := sort2_apply x y b n (Fin.castLE hK k)
  exact ⟨(congrArg v.1 hj).trans hv.1, (congrArg v.2 hj).trans (hv.2.trans rfl)⟩

/-- Three known points are the nearest when they head the sorted row and the row's first four squared distances strictly
    increase. -/
theorem nearest_of_greatest {D : Fin 1024 → EReal} (hf : ∀ k, D k ≠ ⊤) (x : Fin 1024 → EReal) (hx : ∀ k, x k = -D k)
    (h01 : -x (greatest x 0) < -x (greatest x 1)) (h12 : -x (greatest x 1) < -x (greatest x 2))
    (h23 : -x (greatest x 2) < -x (greatest x 3)) : Nearest D fun k => greatest x (Fin.castLE (by omega) k) := by
  simp only [hx, neg_neg] at h01 h12 h23
  refine ⟨hf, h01, h12, fun p h0 h1 h2 => ?_⟩
  obtain ⟨j, rfl⟩ := greatest_surjective x p
  have hj : (3 : Fin 1024) ≤ j := by
    by_contra hlt
    have : j.val < 3 := by simpa [Fin.le_def] using hlt
    obtain hv | hv | hv : j.val = 0 ∨ j.val = 1 ∨ j.val = 2 := by omega
    · exact h0 (congrArg _ (Fin.ext hv))
    · exact h1 (congrArg _ (Fin.ext hv))
    · exact h2 (congrArg _ (Fin.ext hv))
  refine lt_of_lt_of_le h23 ?_
  rcases hj.eq_or_lt with rfl | hlt
  · exact le_rfl
  · have := greatest_antitone x hlt
    simp only [hx] at this
    exact EReal.neg_le_neg_iff.mp this

end Cert.Three

end
-- ==== Proof.Reference.lean ====
/- The reference program's result as a composition of its stages, each a named function of arrays. -/
module

public import proofs.«01_k».proof.Proof.Gen.ReferenceIdeal.Run
public import proofs.«01_k».proof.Proof.Order
public import proofs.«01_k».proof.Proof.Answer

@[expose] public section

noncomputable section

namespace Cert.Three.Ref

open Idealize.ShloMosaic Idealize.SL.Sem Cert.ReferenceIdeal
open Cert.ReferenceIdeal.Facts₀

/-- Minus the squared distances of every query point from every known point. -/
def negDist (x0 : FVec Ideal S8x3x4096 .f32) (x1 : FVec Ideal S8x3x1024 .f32) : FVec Ideal S8x4096x1024 .f32 :=
  let v := subf
    (broadcastInDim S8x4096x1024x3 ![0, 1, 2, 3] bcast_S8x4096x1x3_S8x4096x1024x3_0_1_2_3
      (broadcastInDim S8x4096x1x3 ![0, 1, 3] bcast_S8x4096x3_S8x4096x1x3_0_1_3
        (transpose S8x4096x3 [0, 2, 1] x0 transposes_S8x3x4096_S8x4096x3_0_2_1)))
    (broadcastInDim S8x4096x1024x3 ![0, 1, 2, 3] bcast_S8x1x1024x3_S8x4096x1024x3_0_1_2_3
      (broadcastInDim S8x1x1024x3 ![0, 2, 3] bcast_S8x1024x3_S8x1x1024x3_0_2_3
        (transpose S8x1024x3 [0, 2, 1] x1 transposes_S8x3x1024_S8x1024x3_0_2_1)))
  Host.negf (Host.reduceAdd (mulf v v) (constant S_ .f32 0x00000000#32) reducesTo_S8x4096x1024x3_S8x4096x1024_d3 h_S_)

/-- The three greatest entries of every row, and where they are. -/
def top (s : FVec Ideal S8x4096x1024 .f32) : FVec Ideal S8x4096x3 .f32 × IVec S8x4096x3 32 :=
  Host.topK S8x4096x3 2 (FloatOps.cmpfTotal .gt) s sliceFits_S8x4096x1024_S8x4096x3

/-- Distances from negated squared distances. -/
def root (v : FVec Ideal S8x4096x3 .f32) : FVec Ideal S8x4096x3 .f32 :=
  Host.sqrt (maximumf (Host.negf v) (broadcastInDim S8x4096x3 ![] bcast_S_S8x4096x3 (constant S_ .f32 0x00000000#32)))

/-- Inverse distances, a distance below the small constant counted as that constant. -/
def inverse (v : FVec Ideal S8x4096x3 .f32) : FVec Ideal S8x4096x3 .f32 :=
  Host.divf (broadcastInDim S8x4096x3 ![] bcast_S_S8x4096x3 (constant S_ .f32 0x3F800000#32))
    (maximumf v (broadcastInDim S8x4096x3 ![] bcast_S_S8x4096x3 (constant S_ .f32 0x2EDBE6FF#32)))

/-- Each triple divided by its sum. -/
def normalise (v : FVec Ideal S8x4096x3 .f32) : FVec Ideal S8x4096x3 .f32 :=
  Host.divf v (broadcastInDim S8x4096x3 ![0, 1, 2] bcast_S8x4096x1_S8x4096x3_0_1_2
    (broadcastInDim S8x4096x1 ![0, 1] bcast_S8x4096_S8x4096x1_0_1
      (Host.reduceAdd v (constant S_ .f32 0x00000000#32) reducesTo_S8x4096x3_S8x4096_d2 h_S_)))

/-- The places as start indices, a negative one counted from the end. -/
def places (j : IVec S8x4096x3 32) : IVec S8x4096x3x1 32 :=
  broadcastInDim S8x4096x3x1 ![0, 1, 2] bcast_S8x4096x3_S8x4096x3x1_0_1_2
    (select (cmpi .slt j (broadcastInDim S8x4096x3 ![] bcast_S_S8x4096x3 (constantI S_ 32 0#32)))
      (addi j (broadcastInDim S8x4096x3 ![] bcast_S_S8x4096x3 (constantI S_ 32 1024#32))) j)

/-- The known points' normals at the places. -/
def normals (x3 : FVec Ideal S8x3x1024 .f32) (p : IVec S8x4096x3x1 32) : FVec Ideal S8x4096x3x3 .f32 :=
  Host.gather gather_S8x1024x3_S8x4096x3x1_S8x4096x3x3_3_1_0_0_1_3_113
    (transpose S8x1024x3 [0, 2, 1] x3 transposes_S8x3x1024_S8x1024x3_0_2_1) p

/-- The distances of the queries' normals from the given ones. -/
def normalDist (x2 : FVec Ideal S8x3x4096 .f32) (g : FVec Ideal S8x4096x3x3 .f32) : FVec Ideal S8x4096x3 .f32 :=
  let v := subf (broadcastInDim S8x4096x3x3 ![0, 1, 2, 3] bcast_S8x4096x1x3_S8x4096x3x3_0_1_2_3
    (broadcastInDim S8x4096x1x3 ![0, 1, 3] bcast_S8x4096x3_S8x4096x1x3_0_1_3
      (transpose S8x4096x3 [0, 2, 1] x2 transposes_S8x3x4096_S8x4096x3_0_2_1))) g
  Host.sqrt (Host.reduceAdd (mulf v v) (constant S_ .f32 0x00000000#32) reducesTo_S8x4096x3x3_S8x4096x3_d3 h_S_)

/-- The known points' features at the places. -/
def features (x5 : FVec Ideal S8x64x1024 .f32) (p : IVec S8x4096x3x1 32) : FVec Ideal S8x4096x3x64 .f32 :=
  Host.gather gather_S8x1024x64_S8x4096x3x1_S8x4096x3x64_3_1_0_0_1_3_1164
    (transpose S8x1024x64 [0, 2, 1] x5 transposes_S8x64x1024_S8x1024x64_0_2_1) p

/-- The weighted sums of the features. -/
def mix (w : FVec Ideal S8x4096x3 .f32) (g : FVec Ideal S8x4096x3x64 .f32) : FVec Ideal S8x64x4096 .f32 :=
  transpose S8x64x4096 [0, 2, 1]
    (Host.reduceAdd (mulf (broadcastInDim S8x4096x3x64 ![0, 1, 2, 3] bcast_S8x4096x3x1_S8x4096x3x64_0_1_2_3
      (broadcastInDim S8x4096x3x1 ![0, 1, 2] bcast_S8x4096x3_S8x4096x3x1_0_1_2 w)) g)
      (constant S_ .f32 0x00000000#32) reducesTo_S8x4096x3x64_S8x4096x64_d2 h_S_) transposes_S8x4096x64_S8x64x4096_0_2_1

/-- The mixed features over the queries' own. -/
def stack (f g : FVec Ideal S8x64x4096 .f32) : FVec Ideal S8x128x4096 .f32 :=
  concatenate S8x128x4096 1 [⟨S8x64x4096, f⟩, ⟨S8x64x4096, g⟩] concatenates_S8x64x4096_S8x64x4096_S8x128x4096_d1

/-- One layer of the network. -/
def layer (h : FVec Ideal S8x128x4096 .f32) (W : FVec Ideal S128x128 .f32) (u : FVec Ideal S128 .f32) :
    FVec Ideal S8x128x4096 .f32 :=
  maximumf (addf (transpose S8x128x4096 [0, 2, 1]
      (Host.dotGeneral dot_S8x128x4096_S128x128_S8x4096x128_1_1_02_0_n_n none h W) transposes_S8x4096x128_S8x128x4096_0_2_1)
    (broadcastInDim S8x128x4096 ![0, 1, 2] bcast_S1x128x1_S8x128x4096_0_1_2
      (broadcastInDim S1x128x1 ![1] bcast_S128_S1x128x1_1 u)))
    (broadcastInDim S8x128x4096 ![] bcast_S_S8x128x4096 (constant S_ .f32 0x00000000#32))

/-- The whole reference. -/
def whole (x0 : FVec Ideal S8x3x4096 .f32) (x1 : FVec Ideal S8x3x1024 .f32) (x2 : FVec Ideal S8x3x4096 .f32)
    (x3 : FVec Ideal S8x3x1024 .f32) (x4 : FVec Ideal S8x64x4096 .f32) (x5 : FVec Ideal S8x64x1024 .f32)
    (x6 : FVec Ideal S128x128 .f32) (x7 : FVec Ideal S128 .f32) (x8 : FVec Ideal S128x128 .f32) (x9 : FVec Ideal S128 .f32) :
    FVec Ideal S8x128x4096 .f32 :=
  let t := top (negDist x0 x1)
  let p := places t.2
  layer (layer (stack (mix (mulf (normalise (inverse (root t.1))) (normalise (inverse (normalDist x2 (normals x3 p)))))
    (features x5 p)) x4) x6 x7) x8 x9

/-- The reference program's result is that composition. -/
theorem result_whole (m : (ℓ : Loc nD τ sig) → Buf (Elt Ideal) ℓ) (c : Dev nD) :
    Cert.ReferenceIdeal.Value.res_main_v71 m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v71
  rfl

end Cert.Three.Ref
-- ==== Proof.Gather.lean ====
/- A batched gather of rows, read at an index: from every batch member's list of 1024 rows, the rows at three places for
   each of 4096 points. -/
module

public import Idealize.ShloMosaic.Lib.ValueIdx
public import Idealize.ShloMosaic.Lib.Pointwise.Index

@[expose] public section

noncomputable section

namespace Cert.Three

open Idealize.ShloMosaic

/-- The dimension numbers of the gather, for rows of length `C`. -/
abbrev rowDims (C : ℕ)
    (wf : GatherDims.WF ⟨3, ![8, 1024, C]⟩ ⟨4, ![8, 4096, 3, 1]⟩ ⟨4, ![8, 4096, 3, C]⟩ [3] [1] [0] [1] [0] 3 ![1, 1, C]) :
    GatherDims ⟨3, ![8, 1024, C]⟩ ⟨4, ![8, 4096, 3, 1]⟩ ⟨4, ![8, 4096, 3, C]⟩ where
  offsetDims := [3]
  collapsedSliceDims := [1]
  operandBatchingDims := [0]
  startIndicesBatchingDims := [0]
  startIndexMap := [1]
  indexVectorDim := 3
  sliceSizes := ![1, 1, C]
  wf := wf

/-- At a place `p` below 1024 the gather reads row `p` of the batch member. -/
theorem gather_row {C : ℕ} {α : Type}
    (wf : GatherDims.WF ⟨3, ![8, 1024, C]⟩ ⟨4, ![8, 4096, 3, 1]⟩ ⟨4, ![8, 4096, 3, C]⟩ [3] [1] [0] [1] [0] 3 ![1, 1, C])
    (x : (⟨3, ![8, 1024, C]⟩ : Shape).Idx → α) (place : IVec ⟨4, ![8, 4096, 3, 1]⟩ 32)
    (b : Fin 8) (n : Fin 4096) (k : Fin 3) (c : Fin C) (p : Fin 1024)
    (hp : place (ix4 b n k 0) = BitVec.ofNat 32 p.val) :
    Host.gather (rowDims C wf) x place (ix4 b n k c) = x (ix3 b p c) := by
  have hw : ((BitVec.ofNat 32 p.val : BitVec 32).toInt).toNat = p.val := by
    have := p.isLt
    rw [BitVec.toInt_eq_toNat_of_lt (by rw [BitVec.toNat_ofNat]; omega), BitVec.toNat_ofNat]
    omega
  unfold Host.gather
  congr 1
  funext a
  refine Fin.ext ?_
  show (rowDims C wf).start (ix4 b n k c) place a + (rowDims C wf).batchCoord (ix4 b n k c) a
      + (rowDims C wf).offCoord (ix4 b n k c) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (rowDims C wf).operandBatchingDims from List.mem_singleton.mpr rfl)]
    simp only [Nat.zero_add, Nat.add_zero]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims C wf).startIndexMap from List.mem_singleton.mpr rfl)]
    have hsi : (rowDims C wf).siIdx (ix4 b n k c) ⟨List.idxOf (1 : Fin 3) (rowDims C wf).startIndexMap,
        List.idxOf_lt_length_iff.2 (List.mem_singleton.mpr rfl)⟩ = ix4 b n k 0 := by
      funext e; refine Fin.ext ?_
      match e with
      | ⟨0, _⟩ => rfl
      | ⟨1, _⟩ => rfl
      | ⟨2, _⟩ => rfl
      | ⟨3, _⟩ => rfl
    rw [hsi, hp, hw]
    show min p.val (1024 - 1) = p.val
    have := p.isLt
    omega
  · rw [GatherDims.batchCoord_eq_zero _ _ _ (fun h => by simp at h)]
    have hs : (rowDims C wf).start (ix4 b n k c) place 2 = 0 := by
      unfold GatherDims.start
      rw [dif_neg (by simp)]
    rw [hs]
    unfold GatherDims.offCoord
    have hk : (2 : Fin 3) ∈ (rowDims C wf).sKept :=
      (GatherDims.mem_sKept _ _).mpr ⟨by simp, by simp⟩
    rw [dif_pos hk]
    simp only [Nat.zero_add, Nat.add_zero]
    rfl

end Cert.Three
-- ==== Proof.RefStages.lean ====
/- Every stage of the reference read at one index. -/
module

public import proofs.«01_k».proof.Proof.Reference
public import proofs.«01_k».proof.Proof.Gather
public import Idealize.ShloMosaic.Lib.Pipeline.ValueKit

@[expose] public section

noncomputable section

namespace Cert.Three.Ref

open Idealize.ShloMosaic Idealize.SL.Sem Cert.ReferenceIdeal
open Cert.ReferenceIdeal.Facts₀

variable (b : Fin 8) (n : Fin 4096)

/-- The first stage holds minus the squared distances. -/
theorem negDist_apply (x0 : FVec Ideal S8x3x4096 .f32) (x1 : FVec Ideal S8x3x1024 .f32) (k : Fin 1024) :
    negDist x0 x1 (ix3 b n k) = -dist x0 x1 b n k := by
  pointwise [negDist]
  simp only [dist, sq]

/-- A distance from a negated squared distance, a negative square counted as zero. -/
theorem root_apply (v : FVec Ideal S8x4096x3 .f32) (y : S8x4096x3.Idx) : root v y = Ideal.sqrt (max (-v y) 0) := by
  pointwise [root]

/-- An inverse distance. -/
theorem inverse_apply (v : FVec Ideal S8x4096x3 .f32) (y : S8x4096x3.Idx) :
    inverse v y = Ideal.div 1 (max (v y) eps) := by
  pointwise [inverse]
  simp only [eps]

/-- An entry of a triple over the triple's sum. -/
theorem normalise_apply (v : FVec Ideal S8x4096x3 .f32) (k : Fin 3) :
    normalise v (ix3 b n k) = Ideal.div (v (ix3 b n k)) (v (ix3 b n 0) + v (ix3 b n 1) + v (ix3 b n 2)) := by
  pointwise [normalise]
  rw [Fin.sum_univ_three]

/-- A place below 1024 is kept as it is. -/
theorem places_apply (j : IVec S8x4096x3 32) (k : Fin 3) (p : Fin 1024)
    (h : j (ix3 b n k) = BitVec.ofNat 32 p.val) : places j (ix4 b n k 0) = BitVec.ofNat 32 p.val := by
  have hc : IntOp.cmpi .slt (BitVec.ofNat 32 p.val) 0#32 = 0#1 := by
    have hn : ¬ (BitVec.ofNat 32 p.val).slt 0#32 = true := by
      have := p.isLt
      rw [BitVec.slt_iff_toInt_lt, BitVec.toInt_eq_toNat_of_lt (by rw [BitVec.toNat_ofNat]; omega)]
      rw [show ((0#32 : BitVec 32).toInt) = 0 from rfl]
      omega
    simp [IntOp.cmpi, hn]
  pointwise [places]
  rw [h, hc]
  rfl

/-- The distance of the query's normal from the gathered one. -/
theorem normalDist_apply (x2 : FVec Ideal S8x3x4096 .f32) (g : FVec Ideal S8x4096x3x3 .f32) (k : Fin 3) :
    normalDist x2 g (ix3 b n k) = Ideal.sqrt (sq (fun j => x2 (ix3 b j n)) fun j => g (ix4 b n k j)) := by
  pointwise [normalDist]
  simp only [sq]

/-- A weighted sum of the three gathered features. -/
theorem mix_apply (w : FVec Ideal S8x4096x3 .f32) (g : FVec Ideal S8x4096x3x64 .f32) (c : Fin 64) :
    mix w g (ix3 b c n)
      = w (ix3 b n 0) * g (ix4 b n 0 c) + w (ix3 b n 1) * g (ix4 b n 1 c) + w (ix3 b n 2) * g (ix4 b n 2 c) := by
  pointwise [mix]
  rw [Fin.sum_univ_three]

/-- One unit of a layer. -/
theorem layer_apply (h : FVec Ideal S8x128x4096 .f32) (W : FVec Ideal S128x128 .f32) (u : FVec Ideal S128 .f32)
    (o : Fin 128) :
    layer h W u (ix3 b o n) = max (∑ c : Fin 128, W (ix2 o c) * h (ix3 b c n) + u (ix1 o)) 0 := by
  pointwise [layer]
  simp only [mul_comm]

/-- The gathered normal at a place. -/
theorem normals_apply (x3 : FVec Ideal S8x3x1024 .f32) (q : IVec S8x4096x3x1 32) (k j : Fin 3) (p : Fin 1024)
    (h : q (ix4 b n k 0) = BitVec.ofNat 32 p.val) : normals x3 q (ix4 b n k j) = x3 (ix3 b j p) := by
  unfold normals
  refine (gather_row (C := 3) _ _ q b n k j p h).trans ?_
  pointwise []

/-- The gathered features at a place. -/
theorem features_apply (x5 : FVec Ideal S8x64x1024 .f32) (q : IVec S8x4096x3x1 32) (k : Fin 3) (c : Fin 64) (p : Fin 1024)
    (h : q (ix4 b n k 0) = BitVec.ofNat 32 p.val) : features x5 q (ix4 b n k c) = x5 (ix3 b c p) := by
  unfold features
  refine (gather_row (C := 64) _ _ q b n k c p h).trans ?_
  pointwise []

/-- The upper half of the stack is the mixed features. -/
theorem stack_left (f g : FVec Ideal S8x64x4096 .f32) (c : Fin 64) :
    stack f g (ix3 b ⟨c.val, by omega⟩ n) = f (ix3 b c n) := by
  unfold stack
  have h : c.val < 64 := c.isLt
  refine concatenate_pair_apply_left (s₁ := S8x64x4096) (s₂ := S8x64x4096) (1 : Fin S8x128x4096.rank) _ _ _ _ rfl
    (ix3 b c n) ?_
  intro q
  fin_cases q <;> rfl

/-- The lower half of the stack is the query's own features. -/
theorem stack_right (f g : FVec Ideal S8x64x4096 .f32) (c : Fin 64) :
    stack f g (ix3 b ⟨64 + c.val, by omega⟩ n) = g (ix3 b c n) := by
  unfold stack
  refine concatenate_pair_apply_right (s₁ := S8x64x4096) (s₂ := S8x64x4096) (1 : Fin S8x128x4096.rank) _ _ _ _ rfl rfl
    (ix3 b c n) ?_ ?_
  · intro q hq
    fin_cases q
    · rfl
    · exact absurd rfl hq
    · rfl
  · exact Nat.add_comm _ _

/-- A sum over the stack's 128 channels is the sum over its two halves. -/
theorem sum_halves (F : Fin 128 → EReal) :
    ∑ c, F c = ∑ c : Fin 64, F ⟨c.val, by omega⟩ + ∑ c : Fin 64, F ⟨64 + c.val, by omega⟩ :=
  Fin.sum_univ_add (a := 64) (b := 64) F

end Cert.Three.Ref
-- ==== Proof.RefValue.lean ====
/- The reference's result read at an index: the plain mathematics, at the three greatest entries of the row of negated
   squared distances. -/
module

public import proofs.«01_k».proof.Proof.RefStages

@[expose] public section

noncomputable section

namespace Cert.Three.Ref

open Idealize.ShloMosaic Idealize.SL.Sem Cert.ReferenceIdeal

/-- The three known points the reference picks for query `n` of batch member `b`. -/
def picked (x0 : FVec Ideal S8x3x4096 .f32) (x1 : FVec Ideal S8x3x1024 .f32) (b : Fin 8) (n : Fin 4096) (k : Fin 3) :
    Fin 1024 :=
  greatest (fun p => negDist x0 x1 (ix3 b n p)) (Fin.castLE (by omega) k)

variable (b : Fin 8) (n : Fin 4096)

/-- The selected entries are minus the squared distances of the picked points, -/
theorem top_value (x0 : FVec Ideal S8x3x4096 .f32) (x1 : FVec Ideal S8x3x1024 .f32) (k : Fin 3) :
    (top (negDist x0 x1)).1 (ix3 b n k) = -dist x0 x1 b n (picked x0 x1 b n k) :=
  (topK_apply (K := 3) (by omega) (negDist x0 x1) _ b n k).1.trans (negDist_apply b n x0 x1 _)

/-- and their places are the picked points. -/
theorem top_place (x0 : FVec Ideal S8x3x4096 .f32) (x1 : FVec Ideal S8x3x1024 .f32) (k : Fin 3) :
    (top (negDist x0 x1)).2 (ix3 b n k) = BitVec.ofNat 32 (picked x0 x1 b n k).val :=
  (topK_apply (K := 3) (by omega) (negDist x0 x1) _ b n k).2

/-- The weights: the products of the two normalised inverse distances. -/
theorem weights_apply (s g : FVec Ideal S8x4096x3 .f32) (d e : Fin 3 → EReal)
    (hs : ∀ k, s (ix3 b n k) = Ideal.sqrt (d k)) (hg : ∀ k, g (ix3 b n k) = Ideal.sqrt (e k)) (k : Fin 3) :
    mulf (normalise (inverse s)) (normalise (inverse g)) (ix3 b n k) = weightR d e k := by
  have h : ∀ v w : FVec Ideal S8x4096x3 .f32, mulf v w (ix3 b n k) = v (ix3 b n k) * w (ix3 b n k) := by
    intro v w
    pointwise []
  rw [h]
  simp only [normalise_apply, inverse_apply, hs, hg, weightR, invSum, recip]

/-- Both layers over the mixed features and the query's own. -/
theorem network_apply (f x4 : FVec Ideal S8x64x4096 .f32) (x6 : FVec Ideal S128x128 .f32) (x7 : FVec Ideal S128 .f32)
    (x8 : FVec Ideal S128x128 .f32) (x9 : FVec Ideal S128 .f32) (o : Fin 128) :
    layer (layer (stack f x4) x6 x7) x8 x9 (ix3 b o n)
      = outUnit (fun a b => x8 (ix2 a b)) (fun a => x9 (ix1 a))
          (hidden (fun a b => x6 (ix2 a b)) (fun a => x7 (ix1 a)) (fun c => f (ix3 b c n)) (fun c => x4 (ix3 b c n))) o := by
  rw [layer_apply]
  simp only [outUnit, layer_apply, hidden]
  congr 2
  refine Finset.sum_congr rfl fun x _ => ?_
  rw [sum_halves]
  simp only [stack_left, stack_right]

/-- The whole reference at an index. -/
theorem whole_apply (x0 : FVec Ideal S8x3x4096 .f32) (x1 : FVec Ideal S8x3x1024 .f32) (x2 : FVec Ideal S8x3x4096 .f32)
    (x3 : FVec Ideal S8x3x1024 .f32) (x4 : FVec Ideal S8x64x4096 .f32) (x5 : FVec Ideal S8x64x1024 .f32)
    (x6 : FVec Ideal S128x128 .f32) (x7 : FVec Ideal S128 .f32) (x8 : FVec Ideal S128x128 .f32) (x9 : FVec Ideal S128 .f32)
    (o : Fin 128) :
    whole x0 x1 x2 x3 x4 x5 x6 x7 x8 x9 (ix3 b o n)
      = answer weightR x4 x5 x6 x7 x8 x9 (fun k => max (dist x0 x1 b n k) 0) (dist x2 x3 b n) (picked x0 x1 b n) b o n := by
  have hp : ∀ k, places (top (negDist x0 x1)).2 (ix4 b n k 0) = BitVec.ofNat 32 (picked x0 x1 b n k).val :=
    fun k => places_apply b n _ k _ (top_place b n x0 x1 k)
  have hs : ∀ k, root (top (negDist x0 x1)).1 (ix3 b n k) = Ideal.sqrt (max (dist x0 x1 b n (picked x0 x1 b n k)) 0) := by
    intro k
    rw [root_apply, top_value, neg_neg]
  have hg : ∀ k, normalDist x2 (normals x3 (places (top (negDist x0 x1)).2)) (ix3 b n k)
      = Ideal.sqrt (dist x2 x3 b n (picked x0 x1 b n k)) := by
    intro k
    rw [normalDist_apply]
    simp only [normals_apply b n x3 _ k _ _ (hp k), dist]
  unfold whole
  rw [network_apply]
  unfold answer
  congr 1
  congr 1
  funext c
  rw [mix_apply]
  have hw := weights_apply b n _ _ _ _ hs hg
  simp only [hw, features_apply b n x5 _ _ c _ (hp _), interp]

end Cert.Three.Ref
-- ==== Proof.PreFacts.lean ====
/- What the precondition says: finite coordinates and normals, and no tie among the four nearest known points of any query. -/
module

public import proofs.«01_k».proof.Proof.RefValue
public import proofs.«01_k».proof.Proof.Gen.Pre_pre
public import Idealize.ShloMosaic.Lib.ReduceAll

@[expose] public section

noncomputable section

namespace Cert.Three.Pre

open Idealize.ShloMosaic Idealize.SL.Sem Cert.Pre_pre
open Cert.Pre_pre.Facts

/-- Every entry of a list of known points' coordinates is finite. -/
def finiteKnown (x : FVec Ideal S8x3x1024 .f32) : IVec S_ 1 :=
  Host.reduce IntOp.andi (cmpf .olt (Host.absf x) (broadcastInDim S8x3x1024 ![] bcast_S_S8x3x1024 (constant S_ .f32 0x7F800000#32)))
    (constantI S_ 1 1#1) reducesTo_S8x3x1024_S_d0_1_2 h_S_

/-- Every entry of a list of queries' coordinates is finite. -/
def finiteQuery (x : FVec Ideal S8x3x4096 .f32) : IVec S_ 1 :=
  Host.reduce IntOp.andi (cmpf .olt (Host.absf x) (broadcastInDim S8x3x4096 ![] bcast_S_S8x3x4096 (constant S_ .f32 0x7F800000#32)))
    (constantI S_ 1 1#1) reducesTo_S8x3x4096_S_d0_1_2 h_S_

/-- The four greatest entries of every row. -/
def top (s : FVec Ideal S8x4096x1024 .f32) : FVec Ideal S8x4096x4 .f32 :=
  (Host.topK S8x4096x4 2 (FloatOps.cmpfTotal .gt) s sliceFits_S8x4096x1024_S8x4096x4).1

/-- Each of four entries negated is below the next. -/
def increasing (t : FVec Ideal S8x4096x4 .f32) : IVec S_ 1 :=
  Host.reduce IntOp.andi (cmpf .olt (extractStridedSlice S8x4096x3 ![0, 0, 0] (Host.negf t) slices_S8x4096x4_S8x4096x3_0_0_0)
    (extractStridedSlice S8x4096x3 ![0, 0, 1] (Host.negf t) slices_S8x4096x4_S8x4096x3_0_0_1))
    (constantI S_ 1 1#1) reducesTo_S8x4096x3_S_d0_1_2 h_S_

variable {x0 : FVec Ideal S8x3x4096 .f32} {x1 : FVec Ideal S8x3x1024 .f32} {x2 : FVec Ideal S8x3x4096 .f32}
  {x3 : FVec Ideal S8x3x1024 .f32} {x4 : FVec Ideal S8x64x4096 .f32} {x5 : FVec Ideal S8x64x1024 .f32}
  {x6 : FVec Ideal S128x128 .f32} {x7 : FVec Ideal S128 .f32} {x8 : FVec Ideal S128x128 .f32} {x9 : FVec Ideal S128 .f32}

/-- The precondition is the conjunction of the four. -/
theorem fn_eq : fn (F := Ideal) x0 x1 x2 x3 x4 x5 x6 x7 x8 x9
    = andi (andi (andi (finiteKnown x1) (finiteQuery x2)) (finiteKnown x3)) (increasing (top (Ref.negDist x0 x1))) := by
  unfold fn fn_part1
  rfl

/-- There is one index of the empty shape. -/
instance : Subsingleton S_.Idx := ⟨fun a b => funext fun j => j.elim0⟩

/-- An extended real whose absolute value is below ⊤ is a real. -/
theorem real_of_abs_lt {x : EReal} (h : max x (-x) < ⊤) : ∃ r : ℝ, x = (r : EReal) := by
  obtain ⟨h1, h2⟩ := max_lt_iff.mp h
  refine ⟨x.toReal, (EReal.coe_toReal h1.ne ?_).symm⟩
  rintro rfl
  exact absurd h2 (by simp)

/-- A decided bit that is 1 was decided true. -/
theorem of_bit {p : Prop} [Decidable p] (h : BitVec.ofBool (decide p) = 1#1) : p := by
  by_contra hn
  rw [decide_eq_false hn] at h
  exact absurd h (by decide)

/-- Known points declared finite have real coordinates. -/
theorem real_of_known {x : FVec Ideal S8x3x1024 .f32} (h : finiteKnown x ix0 = 1#1) (i : S8x3x1024.Idx) :
    ∃ r : ℝ, x i = (r : EReal) := by
  unfold finiteKnown at h
  have h1 := Host.reduce_andi_all _ _ _ _ _ h i
  pointwise [] at h1
  rw [ofBits_inf] at h1
  exact real_of_abs_lt (of_bit h1)

/-- Queries declared finite have real coordinates. -/
theorem real_of_query {x : FVec Ideal S8x3x4096 .f32} (h : finiteQuery x ix0 = 1#1) (i : S8x3x4096.Idx) :
    ∃ r : ℝ, x i = (r : EReal) := by
  unfold finiteQuery at h
  have h1 := Host.reduce_andi_all _ _ _ _ _ h i
  pointwise [] at h1
  rw [ofBits_inf] at h1
  exact real_of_abs_lt (of_bit h1)

/-- Rows declared increasing increase from entry to entry. -/
theorem increasing_apply {t : FVec Ideal S8x4096x4 .f32} (h : increasing t ix0 = 1#1) (b : Fin 8) (n : Fin 4096) (k : Fin 3) :
    -t (ix3 b n ⟨k.val, by omega⟩) < -t (ix3 b n ⟨1 + k.val, by omega⟩) := by
  unfold increasing at h
  have h1 := Host.reduce_andi_all _ _ _ _ _ h (ix3 b n k)
  pointwise [] at h1
  exact of_bit h1

/-- The four conditions, one by one. -/
theorem parts (h : fn (F := Ideal) x0 x1 x2 x3 x4 x5 x6 x7 x8 x9 = fun _ => 1#1) :
    finiteKnown x1 ix0 = 1#1 ∧ finiteQuery x2 ix0 = 1#1 ∧ finiteKnown x3 ix0 = 1#1
      ∧ increasing (top (Ref.negDist x0 x1)) ix0 = 1#1 := by
  have h1 := congrFun h ix0
  rw [fn_eq] at h1
  have e : ∀ a b c d : IVec S_ 1, andi (andi (andi a b) c) d ix0 = 1#1 → a ix0 = 1#1 ∧ b ix0 = 1#1 ∧ c ix0 = 1#1 ∧ d ix0 = 1#1 := by
    intro a b c d
    pointwise []
    simp only [IntOp.andi_eq_one]
    exact fun ⟨⟨⟨ha, hb⟩, hc⟩, hd⟩ => ⟨ha, hb, hc, hd⟩
  exact e _ _ _ _ h1

/-! ## Squares and squared distances -/

theorem square_nonneg (x : EReal) : 0 ≤ x * x := by
  induction x using EReal.rec with
  | bot => simp
  | top => simp
  | coe r => rw [← EReal.coe_mul]; exact_mod_cast mul_self_nonneg r

theorem sq_nonneg (u v : Fin 3 → EReal) : 0 ≤ sq u v := Finset.sum_nonneg fun _ _ => square_nonneg _

/-- One infinite coordinate puts a point infinitely far from a finite one. -/
theorem sq_top {u v : Fin 3 → EReal} {c : Fin 3} (hv : ∃ r : ℝ, v c = (r : EReal)) (hu : u c = ⊤ ∨ u c = ⊥) :
    sq u v = ⊤ := by
  obtain ⟨r, hr⟩ := hv
  have h : (u c - v c) * (u c - v c) = ⊤ := by
    rcases hu with hu | hu <;> simp [hu, hr]
  refine top_le_iff.mp ?_
  rw [← h]
  exact Finset.single_le_sum (f := fun j => (u j - v j) * (u j - v j)) (fun _ _ => square_nonneg _) (Finset.mem_univ c)

/-- Finite points are a real squared distance apart, -/
theorem sq_finite {u v : Fin 3 → EReal} (hu : ∀ c, ∃ r : ℝ, u c = (r : EReal)) (hv : ∀ c, ∃ r : ℝ, v c = (r : EReal)) :
    sq u v ≠ ⊤ := by
  choose a ha using hu
  choose b hb using hv
  rw [show u = fun c => (a c : EReal) from funext ha, show v = fun c => (b c : EReal) from funext hb, sq_coe]
  exact EReal.coe_ne_top _

/-- and the written-out square is that distance. -/
theorem sqK_finite {u v : Fin 3 → EReal} (hu : ∀ c, ∃ r : ℝ, u c = (r : EReal)) (hv : ∀ c, ∃ r : ℝ, v c = (r : EReal)) :
    sqK u v = sq u v := by
  choose a ha using hu
  choose b hb using hv
  rw [show u = fun c => (a c : EReal) from funext ha, show v = fun c => (b c : EReal) from funext hb]
  exact sqK_eq a b

/-! ## What the precondition gives -/

/-- The distances of the row's four greatest entries increase. -/
theorem strict (h : increasing (top (Ref.negDist x0 x1)) ix0 = 1#1) (b : Fin 8) (n : Fin 4096) (k : Fin 3) :
    -Ref.negDist x0 x1 (ix3 b n (greatest (fun p => Ref.negDist x0 x1 (ix3 b n p)) ⟨k.val, by omega⟩))
      < -Ref.negDist x0 x1 (ix3 b n (greatest (fun p => Ref.negDist x0 x1 (ix3 b n p)) ⟨1 + k.val, by omega⟩)) := by
  have h1 := increasing_apply h b n k
  have h2 : ∀ q : Fin 4, top (Ref.negDist x0 x1) (ix3 b n q)
      = Ref.negDist x0 x1 (ix3 b n (greatest (fun p => Ref.negDist x0 x1 (ix3 b n p)) (Fin.castLE (by omega) q))) :=
    fun q => (topK_apply (K := 4) (by omega) (Ref.negDist x0 x1) _ b n q).1
  rw [h2, h2] at h1
  exact h1

/-- The queries' coordinates are finite: one at infinity would be as far from every known point. -/
theorem real_of_strict (h1 : ∀ i, ∃ r : ℝ, x1 i = (r : EReal)) (h : increasing (top (Ref.negDist x0 x1)) ix0 = 1#1)
    (b : Fin 8) (j : Fin 3) (n : Fin 4096) : ∃ r : ℝ, x0 (ix3 b j n) = (r : EReal) := by
  by_contra hc
  have hi : x0 (ix3 b j n) = ⊤ ∨ x0 (ix3 b j n) = ⊥ := by
    by_contra hn
    obtain ⟨ht, hb⟩ := not_or.mp hn
    exact hc ⟨(x0 (ix3 b j n)).toReal, (EReal.coe_toReal ht hb).symm⟩
  have ht : ∀ k, dist x0 x1 b n k = ⊤ := fun k => sq_top (c := j) (h1 _) hi
  have hs := strict h b n 0
  rw [Ref.negDist_apply, Ref.negDist_apply, ht, ht] at hs
  exact lt_irrefl _ hs

/-- Under the precondition: the written-out squared distances are the squared distances, the reference's three points are
    the three nearest, with no tie among the first four, and the normals' squared distances are finite. -/
theorem consequences (h : fn (F := Ideal) x0 x1 x2 x3 x4 x5 x6 x7 x8 x9 = fun _ => 1#1) (b : Fin 8) (n : Fin 4096) :
    (∀ k, sqK (fun j => x0 (ix3 b j n)) (fun j => x1 (ix3 b j k)) = dist x0 x1 b n k)
      ∧ Nearest (dist x0 x1 b n) (Ref.picked x0 x1 b n)
      ∧ ∀ k, 0 ≤ dist x2 x3 b n k ∧ dist x2 x3 b n k ≠ ⊤ := by
  obtain ⟨h1, h2, h3, hs⟩ := parts h
  have r1 := real_of_known h1
  have r2 := real_of_query h2
  have r3 := real_of_known h3
  have r0 := real_of_strict r1 hs b
  refine ⟨fun k => sqK_finite (fun j => r0 j n) fun j => r1 _, ?_, fun k => ⟨sq_nonneg _ _, sq_finite (fun _ => r2 _) fun _ => r3 _⟩⟩
  exact nearest_of_greatest (fun k => sq_finite (fun j => r0 j n) fun j => r1 _) _ (Ref.negDist_apply b n x0 x1)
    (strict hs b n 0) (strict hs b n 1) (strict hs b n 2)

end Cert.Three.Pre
-- ==== Proof.Equal.lean ====
/- Under the precondition the kernel's result array is the reference's. -/
module

public import proofs.«01_k».proof.Proof.KernelValue
public import proofs.«01_k».proof.Proof.PreFacts

@[expose] public section

noncomputable section

namespace Cert.Three

open Idealize.ShloMosaic Idealize.SL.Sem

/-- With finite squared distances the kernel's and the reference's weights give the same answer. -/
theorem answer_eq (f : Arr ⟨3, ![8, 64, 4096]⟩) (g : Arr ⟨3, ![8, 64, 1024]⟩)
    (W : Arr ⟨2, ![128, 128]⟩) (u : Arr ⟨1, ![128]⟩) (W' : Arr ⟨2, ![128, 128]⟩) (u' : Arr ⟨1, ![128]⟩)
    {d e : Fin 1024 → EReal} {i : Fin 3 → Fin 1024} (hd : ∀ k, 0 ≤ d k ∧ d k ≠ ⊤) (he : ∀ k, 0 ≤ e k ∧ e k ≠ ⊤)
    (b : Fin 8) (o : Fin 128) (n : Fin 4096) :
    answer weightK f g W u W' u' d e i b o n = answer weightR f g W u W' u' d e i b o n := by
  have h : weightK (fun k => d (i k)) (fun k => e (i k)) = weightR (fun k => d (i k)) (fun k => e (i k)) :=
    funext fun k => weight_eq (fun _ => (hd _).1) (fun _ => (hd _).2) (fun _ => (he _).1) (fun _ => (he _).2) k
  unfold answer
  rw [h]

variable (m : (ℓ : Loc Cert.KernelIdeal.nD Cert.KernelIdeal.τ Cert.KernelIdeal.sig) → Buf (Elt Ideal) ℓ)
  (c : Dev Cert.KernelIdeal.nD)

/-- One element of the kernel's result, at the reference's three points, is the reference's. -/
theorem kernelAt_eq
    (h : Cert.Pre_pre.fn (F := Ideal) (a0 m c) (a1 m c) (a2 m c) (a3 m c) (a4 m c) (a5 m c) (a6 m c) (a7 m c) (a8 m c) (a9 m c)
      = fun _ => 1#1)
    (b : Fin 8) (o : Fin 128) (n : Fin 4096) :
    kernelAt m c (Ref.picked (a0 m c) (a1 m c)) b o n
      = Ref.whole (a0 m c) (a1 m c) (a2 m c) (a3 m c) (a4 m c) (a5 m c) (a6 m c) (a7 m c) (a8 m c) (a9 m c) (ix3 b o n) := by
  have hc := Pre.consequences h b n
  rw [Ref.whole_apply]
  unfold kernelAt
  exact answer_eq _ _ _ _ _ _ (fun k => ⟨le_max_right _ _, (max_lt (hc.2.1.finite k).lt_top EReal.zero_lt_top).ne⟩)
    hc.2.2 _ _ _

/-- The kernel's result array is the reference's result on the same arguments. -/
theorem kernel_eq_whole
    (h : Cert.Pre_pre.fn (F := Ideal) (a0 m c) (a1 m c) (a2 m c) (a3 m c) (a4 m c) (a5 m c) (a6 m c) (a7 m c) (a8 m c) (a9 m c)
      = fun _ => 1#1) :
    (Cert.KernelIdeal.Gen.dats m 0 c).arrAt 9 Cert.KernelIdeal.cfg0.N
      = Ref.whole (a0 m c) (a1 m c) (a2 m c) (a3 m c) (a4 m c) (a5 m c) (a6 m c) (a7 m c) (a8 m c) (a9 m c) := by
  have hc := Pre.consequences h
  refine (result_eq (I := Ref.picked (a0 m c) (a1 m c)) (fun b n => (hc b n).1) (fun b n => (hc b n).2.1)).trans ?_
  funext y
  have hy : y = ix3 (y 0 : Fin 8) (y 1 : Fin 128) (y 2 : Fin 4096) := by
    funext q
    fin_cases q <;> rfl
  exact (kernelAt_eq m c h (y 0) (y 1) (y 2)).trans
    (congrArg (Ref.whole (a0 m c) (a1 m c) (a2 m c) (a3 m c) (a4 m c) (a5 m c) (a6 m c) (a7 m c) (a8 m c) (a9 m c)) hy.symm)

end Cert.Three

end
-- ==== Proof.lean ====
/- The proof of every claim of the certificate: the three programs run and leave their arguments unchanged with every
   semaphore at zero, the kernel is its own idealisation, and over the extended reals the kernel computes the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The reference runs, its arguments end unchanged, and it declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Under the precondition the kernel and the reference, run on the same arguments, end with equal results. -/
theorem algebraic : Cert.algebraic_KernelIdeal_ReferenceIdeal_pre_pre := by
  intro m g m' g' hpre hargs
  refine ⟨fun c => (Cert.KernelIdeal.Gen.dats m 0 c).arrAt 9 Cert.KernelIdeal.cfg0.N, Cert.Three.run_result m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8, e9⟩ := hargs c
  refine (Cert.Three.Ref.result_whole m' c).trans ?_
  rw [e0, e1, e2, e3, e4, e5, e6, e7, e8, e9]
  exact (Cert.Three.kernel_eq_whole m c (hpre c)).symm

/-- Every claim of the certificate. -/
theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
